-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v482) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S4x96x224x224 : Shape := ⟨4, ![4, 96, 224, 224]⟩
abbrev S4x8x224x224 : Shape := ⟨4, ![4, 8, 224, 224]⟩
abbrev S4x9x256 : Shape := ⟨3, ![4, 9, 256]⟩
abbrev S4x8 : Shape := ⟨2, ![4, 8]⟩
abbrev S96 : Shape := ⟨1, ![96]⟩
abbrev S96x256x3x3 : Shape := ⟨4, ![96, 256, 3, 3]⟩
abbrev S8x256x256 : Shape := ⟨3, ![8, 256, 256]⟩
abbrev S8x256 : Shape := ⟨2, ![8, 256]⟩
abbrev S_ : Shape := ⟨0, ![]⟩

class Facts : Prop where
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel
  bcast_S_S4x9x256 : S_.BroadcastsInDim S4x9x256 (![] : Fin 0 → Fin S4x9x256.rank)
  reducesTo_S4x9x256_S_d0_1_2 : S4x9x256.ReducesTo [0, 1, 2] S_
  bcast_S_S96 : S_.BroadcastsInDim S96 (![] : Fin 0 → Fin S96.rank)
  reducesTo_S96_S_d0 : S96.ReducesTo [0] S_
  bcast_S_S96x256x3x3 : S_.BroadcastsInDim S96x256x3x3 (![] : Fin 0 → Fin S96x256x3x3.rank)
  reducesTo_S96x256x3x3_S_d0_1_2_3 : S96x256x3x3.ReducesTo [0, 1, 2, 3] S_
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_

variable [Facts]

def fn_part2 {F : FTy → Type} [FloatOps F] (main_arg11 : FVec F S8x256 .f32) (main_v33 : IVec S_ 1) : IVec S_ 1 :=
  let main_v34 : FVec F S8x256 .f32 := Host.absf main_arg11
  let main_cst_12 : FVec F S_ .f32 := constant S_ .f32 0x7F800000#32
  let main_v35 : FVec F S8x256 .f32 := broadcastInDim S8x256 ![] bcast_S_S8x256 main_cst_12
  let main_v36 : IVec S8x256 1 := cmpf .olt main_v34 main_v35
  let main_c_13 : IVec S_ 1 := constantI S_ 1 1#1
  let main_v37 : IVec S_ 1 := (fun x v => Host.reduce IntOp.andi x v reducesTo_S8x256_S_d0_1 h_S_) main_v36 main_c_13
  let main_v38 : IVec S_ 1 := andi main_v33 main_v37
  main_v38

def fn_part1 {F : FTy → Type} [FloatOps F] (main_arg6 : FVec F S96x256x3x3 .f32) (main_arg7 : FVec F S96 .f32) (main_arg10 : FVec F S8x256x256 .f32) (main_arg11 : FVec F S8x256 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x256x3x3 .f32 := Host.absf main_arg6
  let main_cst_6 : FVec F S_ .f32 := constant S_ .f32 0x7F800000#32
  let main_v20 : FVec F S96x256x3x3 .f32 := broadcastInDim S96x256x3x3 ![] bcast_S_S96x256x3x3 main_cst_6
  let main_v21 : IVec S96x256x3x3 1 := cmpf .olt main_v19 main_v20
  let main_c_7 : IVec S_ 1 := constantI S_ 1 1#1
  let main_v22 : IVec S_ 1 := (fun x v => Host.reduce IntOp.andi x v reducesTo_S96x256x3x3_S_d0_1_2_3 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S8x256x256 .f32 := Host.absf main_arg10
  let main_cst_10 : FVec F S_ .f32 := constant S_ .f32 0x7F800000#32
  let main_v30 : FVec F S8x256x256 .f32 := broadcastInDim S8x256x256 ![] bcast_S_S8x256x256 main_cst_10
  let main_v31 : IVec S8x256x256 1 := cmpf .olt main_v29 main_v30
  let main_c_11 : IVec S_ 1 := constantI S_ 1 1#1
  let main_v32 : IVec S_ 1 := (fun x v => Host.reduce IntOp.andi x v reducesTo_S8x256x256_S_d0_1_2 h_S_) main_v31 main_c_11
  let main_v33 : IVec S_ 1 := andi main_v28 main_v32
  fn_part2 (F := F) main_arg11 main_v33

def fn {F : FTy → Type} [FloatOps F] (main_arg0 : FVec F S4x96x224x224 .f32) (main_arg1 : FVec F S4x8x224x224 .f32) (main_arg2 : FVec F S4x9x256 .f32) (main_arg3 : IVec S4x8 32) (main_arg4 : FVec F S96 .f32) (main_arg5 : FVec F S96 .f32) (main_arg6 : FVec F S96x256x3x3 .f32) (main_arg7 : FVec F S96 .f32) (main_arg8 : FVec F S96x256x3x3 .f32) (main_arg9 : FVec F S96 .f32) (main_arg10 : FVec F S8x256x256 .f32) (main_arg11 : FVec F S8x256 .f32) : IVec S_ 1 :=
  let main_v0 : FVec F S4x96x224x224 .f32 := Host.absf main_arg0
  let main_cst : FVec F S_ .f32 := constant S_ .f32 0x7F800000#32
  let main_v1 : FVec F S4x96x224x224 .f32 := broadcastInDim S4x96x224x224 ![] bcast_S_S4x96x224x224 main_cst
  let main_v2 : IVec S4x96x224x224 1 := cmpf .olt main_v0 main_v1
  let main_c : IVec S_ 1 := constantI S_ 1 1#1
  let main_v3 : IVec S_ 1 := (fun x v => Host.reduce IntOp.andi x v reducesTo_S4x96x224x224_S_d0_1_2_3 h_S_) main_v2 main_c
  let main_v4 : FVec F S4x9x256 .f32 := Host.absf main_arg2
  let main_cst_0 : FVec F S_ .f32 := constant S_ .f32 0x7F800000#32
  let main_v5 : FVec F S4x9x256 .f32 := broadcastInDim S4x9x256 ![] bcast_S_S4x9x256 main_cst_0
  let main_v6 : IVec S4x9x256 1 := cmpf .olt main_v4 main_v5
  let main_c_1 : IVec S_ 1 := constantI S_ 1 1#1
  let main_v7 : IVec S_ 1 := (fun x v => Host.reduce IntOp.andi x v reducesTo_S4x9x256_S_d0_1_2 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg10 main_arg11 main_v13 main_v16
-- ==== Kernel.lean ====
abbrev S4x96x224x224 : Shape := ⟨4, ![4, 96, 224, 224]⟩
abbrev S4x8x224x224 : Shape := ⟨4, ![4, 8, 224, 224]⟩
abbrev S4x9x256 : Shape := ⟨3, ![4, 9, 256]⟩
abbrev S4x8 : Shape := ⟨2, ![4, 8]⟩
abbrev S96 : Shape := ⟨1, ![96]⟩
abbrev S96x256x3x3 : Shape := ⟨4, ![96, 256, 3, 3]⟩
abbrev S8x256x256 : Shape := ⟨3, ![8, 256, 256]⟩
abbrev S8x256 : Shape := ⟨2, ![8, 256]⟩
abbrev S256x3x3x96 : Shape := ⟨4, ![256, 3, 3, 96]⟩
abbrev S256x9x96 : Shape := ⟨3, ![256, 9, 96]⟩
abbrev S256x9x192 : Shape := ⟨3, ![256, 9, 192]⟩
abbrev S256x1728 : Shape := ⟨2, ![256, 1728]⟩
abbrev S2x96x224 : Shape := ⟨3, ![2, 96, 224]⟩
abbrev S4x240x384 : Shape := ⟨3, ![4, 240, 384]⟩
abbrev S4x8x224 : Shape := ⟨3, ![4, 8, 224]⟩
abbrev S32x1728 : Shape := ⟨2, ![32, 1728]⟩
abbrev S1x96x56x224 : Shape := ⟨4, ![1, 96, 56, 224]⟩
abbrev S1x8x56x224 : Shape := ⟨4, ![1, 8, 56, 224]⟩
abbrev S1x240x384 : Shape := ⟨3, ![1, 240, 384]⟩
abbrev S96x56x224 : Shape := ⟨3, ![96, 56, 224]⟩
abbrev S1x96x224 : Shape := ⟨3, ![1, 96, 224]⟩
abbrev S96x224 : Shape := ⟨2, ![96, 224]⟩
abbrev S8x56x224 : Shape := ⟨3, ![8, 56, 224]⟩
abbrev S56x224 : Shape := ⟨2, ![56, 224]⟩
abbrev S1x56x224 : Shape := ⟨3, ![1, 56, 224]⟩
abbrev S8x224 : Shape := ⟨2, ![8, 224]⟩
abbrev S1x8x224 : Shape := ⟨3, ![1, 8, 224]⟩
abbrev S4x256 : Shape := ⟨2, ![4, 256]⟩
abbrev S4x1 : Shape := ⟨2, ![4, 1]⟩
abbrev S4x1x256 : Shape := ⟨3, ![4, 1, 256]⟩
abbrev S1x256x256 : Shape := ⟨3, ![1, 256, 256]⟩
abbrev S256x256 : Shape := ⟨2, ![256, 256]⟩
abbrev S1x256 : Shape := ⟨2, ![1, 256]⟩
abbrev S32x256 : Shape := ⟨2, ![32, 256]⟩
abbrev S8x4x9x192 : Shape := ⟨4, ![8, 4, 9, 192]⟩
abbrev S4x192x9x8 : Shape := ⟨4, ![4, 192, 9, 8]⟩
abbrev S_ : Shape := ⟨0, ![]⟩
abbrev S4x192x9x9 : Shape := ⟨4, ![4, 192, 9, 9]⟩
abbrev S4x192x3x27 : Shape := ⟨4, ![4, 192, 3, 27]⟩
abbrev S4x192x3x32 : Shape := ⟨4, ![4, 192, 3, 32]⟩
abbrev S4x192x96 : Shape := ⟨3, ![4, 192, 96]⟩
abbrev S4x192x128 : Shape := ⟨3, ![4, 192, 128]⟩
abbrev S4x384x128 : Shape := ⟨3, ![4, 384, 128]⟩
abbrev S96x1 : Shape := ⟨2, ![96, 1]⟩
abbrev S1x384x128 : Shape := ⟨3, ![1, 384, 128]⟩
abbrev S384x128 : Shape := ⟨2, ![384, 128]⟩
abbrev S96x128 : Shape := ⟨2, ![96, 128]⟩
abbrev S384x64 : Shape := ⟨2, ![384, 64]⟩
abbrev S1x72x384 : Shape := ⟨3, ![1, 72, 384]⟩
abbrev S72x384 : Shape := ⟨2, ![72, 384]⟩
abbrev S32x224 : Shape := ⟨2, ![32, 224]⟩
abbrev S1x384 : Shape := ⟨2, ![1, 384]⟩
abbrev S1x224 : Shape := ⟨2, ![1, 224]⟩
abbrev S128x224 : Shape := ⟨2, ![128, 224]⟩
abbrev S384x224 : Shape := ⟨2, ![384, 224]⟩
abbrev S1x96x1x224 : Shape := ⟨4, ![1, 96, 1, 224]⟩

abbrev nBuf : Space → Nat
  | .hbm => 45
  | .vmem => 27
  | .smem => 0
  | _ => 0

abbrev bufTy : (tb : Table) → Fin (tcTables nBuf tb) → BufTy
  | .hbm, ⟨0, _⟩ => ⟨S4x96x224x224, .f32⟩
  | .hbm, ⟨1, _⟩ => ⟨S4x8x224x224, .f32⟩
  | .hbm, ⟨2, _⟩ => ⟨S4x9x256, .f32⟩
  | .hbm, ⟨3, _⟩ => ⟨S4x8, .i32⟩
  | .hbm, ⟨4, _⟩ => ⟨S96, .f32⟩
  | .hbm, ⟨5, _⟩ => ⟨S96, .f32⟩
  | .hbm, ⟨6, _⟩ => ⟨S96x256x3x3, .f32⟩
  | .hbm, ⟨7, _⟩ => ⟨S96, .f32⟩
  | .hbm, ⟨8, _⟩ => ⟨S96x256x3x3, .f32⟩
  | .hbm, ⟨9, _⟩ => ⟨S96, .f32⟩
  | .hbm, ⟨10, _⟩ => ⟨S8x256x256, .f32⟩
  | .hbm, ⟨11, _⟩ => ⟨S8x256, .f32⟩
  | .hbm, ⟨12, _⟩ => ⟨S256x3x3x96, .f32⟩
  | .hbm, ⟨13, _⟩ => ⟨S256x9x96, .f32⟩
  | .hbm, ⟨14, _⟩ => ⟨S256x3x3x96, .f32⟩
  | .hbm, ⟨15, _⟩ => ⟨S256x9x96, .f32⟩
  | .hbm, ⟨16, _⟩ => ⟨S256x9x192, .f32⟩
  | .hbm, ⟨17, _⟩ => ⟨S256x1728, .f32⟩
  | .hbm, ⟨18, _⟩ => ⟨S8x256x256, .f32⟩
  | .hbm, ⟨19, _⟩ => ⟨S2x96x224, .f32⟩
  | .hbm, ⟨20, _⟩ => ⟨S4x240x384, .i32⟩
  | .hbm, ⟨21, _⟩ => ⟨S4x8x224, .f32⟩
  | .hbm, ⟨22, _⟩ => ⟨S32x1728, .f32⟩
  | .hbm, ⟨23, _⟩ => ⟨S8x4x9x192, .f32⟩
  | .hbm, ⟨24, _⟩ => ⟨S4x192x9x8, .f32⟩
  | .hbm, ⟨25, _⟩ => ⟨S_, .i32⟩
  | .hbm, ⟨26, _⟩ => ⟨S_, .f32⟩
  | .hbm, ⟨27, _⟩ => ⟨S4x192x9x9, .f32⟩
  | .hbm, ⟨28, _⟩ => ⟨S4x192x3x27, .f32⟩
  | .hbm, ⟨29, _⟩ => ⟨S_, .i32⟩
  | .hbm, ⟨30, _⟩ => ⟨S_, .f32⟩
  | .hbm, ⟨31, _⟩ => ⟨S4x192x3x32, .f32⟩
  | .hbm, ⟨32, _⟩ => ⟨S4x192x96, .f32⟩
  | .hbm, ⟨33, _⟩ => ⟨S_, .i32⟩
  | .hbm, ⟨34, _⟩ => ⟨S_, .f32⟩
  | .hbm, ⟨35, _⟩ => ⟨S4x192x128, .f32⟩
  | .hbm, ⟨36, _⟩ => ⟨S_, .i32⟩
  | .hbm, ⟨37, _⟩ => ⟨S_, .f32⟩
  | .hbm, ⟨38, _⟩ => ⟨S4x192x128, .f32⟩
  | .hbm, ⟨39, _⟩ => ⟨S4x384x128, .f32⟩
  | .hbm, ⟨40, _⟩ => ⟨S96x1, .f32⟩
  | .hbm, ⟨41, _⟩ => ⟨S96x1, .f32⟩
  | .hbm, ⟨42, _⟩ => ⟨S96x1, .f32⟩
  | .hbm, ⟨43, _⟩ => ⟨S96x1, .f32⟩
  | .hbm, ⟨44, _⟩ => ⟨S4x96x224x224, .f32⟩
  | .local _ .vmem, ⟨0, _⟩ => ⟨S1x96x56x224, .f32⟩
  | .local _ .vmem, ⟨1, _⟩ => ⟨S1x96x56x224, .f32⟩
  | .local _ .vmem, ⟨2, _⟩ => ⟨S1x8x56x224, .f32⟩
  | .local _ .vmem, ⟨3, _⟩ => ⟨S1x8x56x224, .f32⟩
  | .local _ .vmem, ⟨4, _⟩ => ⟨S4x9x256, .f32⟩
  | .local _ .vmem, ⟨5, _⟩ => ⟨S4x8, .i32⟩
  | .local _ .vmem, ⟨6, _⟩ => ⟨S8x256x256, .f32⟩
  | .local _ .vmem, ⟨7, _⟩ => ⟨S8x256, .f32⟩
  | .local _ .vmem, ⟨8, _⟩ => ⟨S256x1728, .f32⟩
  | .local _ .vmem, ⟨9, _⟩ => ⟨S2x96x224, .f32⟩
  | .local _ .vmem, ⟨10, _⟩ => ⟨S1x240x384, .i32⟩
  | .local _ .vmem, ⟨11, _⟩ => ⟨S1x240x384, .i32⟩
  | .local _ .vmem, ⟨12, _⟩ => ⟨S4x8x224, .f32⟩
  | .local _ .vmem, ⟨13, _⟩ => ⟨S32x1728, .f32⟩
  | .local _ .vmem, ⟨14, _⟩ => ⟨S1x96x56x224, .f32⟩
  | .local _ .vmem, ⟨15, _⟩ => ⟨S1x96x56x224, .f32⟩
  | .local _ .vmem, ⟨16, _⟩ => ⟨S1x240x384, .i32⟩
  | .local _ .vmem, ⟨17, _⟩ => ⟨S1x240x384, .i32⟩
  | .local _ .vmem, ⟨18, _⟩ => ⟨S1x384x128, .f32⟩
  | .local _ .vmem, ⟨19, _⟩ => ⟨S1x384x128, .f32⟩
  | .local _ .vmem, ⟨20, _⟩ => ⟨S2x96x224, .f32⟩
  | .local _ .vmem, ⟨21, _⟩ => ⟨S96x1, .f32⟩
  | .local _ .vmem, ⟨22, _⟩ => ⟨S96x1, .f32⟩
  | .local _ .vmem, ⟨23, _⟩ => ⟨S96x1, .f32⟩
  | .local _ .vmem, ⟨24, _⟩ => ⟨S96x1, .f32⟩
  | .local _ .vmem, ⟨25, _⟩ => ⟨S1x96x56x224, .f32⟩
  | .local _ .vmem, ⟨26, _⟩ => ⟨S1x96x56x224, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_call2_v0 : Ref sig .tc := ⟨.hbm, 34, rfl⟩
abbrev main_v14 : Ref sig .tc := ⟨.hbm, 35, rfl⟩
abbrev main_c_2 : Ref sig .tc := ⟨.hbm, 36, rfl⟩
abbrev main_call3_v0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_26 : Index := 0#32
  let c8_i32_25 : BitVec 32 := 8#32
  let arg1 : BitVec 32 := BitVec.ofNat 32 (i 1).val
  let c56_i32 : BitVec 32 := 56#32
  let v62 : BitVec 32 := Scalar.muli arg1 c56_i32
  let v63 : BitVec 32 := Scalar.addi c8_i32_25 v62
  let v64 : Index := Scalar.indexCast v63
  let c128 : Index := 128#32
  ![0, v64.toNat, 128]
def k0_cond3 (i : grid0.Coords) : BitVec 1 :=
  let arg0 : BitVec 32 := BitVec.ofNat 32 (i 0).val
  let c3_i32_35 : BitVec 32 := 3#32
  let v83 : BitVec 1 := Scalar.cmpi .eq arg0 c3_i32_35
  let arg1 : BitVec 32 := BitVec.ofNat 32 (i 1).val
  let c3_i32_36 : BitVec 32 := 3#32
  let v84 : BitVec 1 := Scalar.cmpi .eq arg1 c3_i32_36
  let v85 : BitVec 1 := Scalar.andi v83 v84
  let v86 : BitVec 32 := Scalar.extui v85
  let c0_i32_37 : BitVec 32 := 0#32
  let v87 : BitVec 1 := Scalar.cmpi .ne v86 c0_i32_37
  v87

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x56x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x9x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x96x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x240x384 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x8x224 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1728 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev grid1 : Pipeline.Grid := ⟨2, ![4, 4], ![false, false]⟩

def k1_off1 (i : grid1.Coords) : Fin 3 → Nat :=
  let c0_51 : Index := 0#32
  let arg1 : BitVec 32 := BitVec.ofNat 32 (i 1).val
  let c56_i32 : BitVec 32 := 56#32
  let v164 : BitVec 32 := Scalar.muli arg1 c56_i32
  let v165 : Index := Scalar.indexCast v164
  let c0_52 : Index := 0#32
  ![0, v165.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x96x56x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x240x384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x384x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2x96x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S96x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S96x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S96x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x96x56x224 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S4x96x224x224 : Shape := ⟨4, ![4, 96, 224, 224]⟩
abbrev S4x8x224x224 : Shape := ⟨4, ![4, 8, 224, 224]⟩
abbrev S4x9x256 : Shape := ⟨3, ![4, 9, 256]⟩
abbrev S4x8 : Shape := ⟨2, ![4, 8]⟩
abbrev S96 : Shape := ⟨1, ![96]⟩
abbrev S96x256x3x3 : Shape := ⟨4, ![96, 256, 3, 3]⟩
abbrev S8x256x256 : Shape := ⟨3, ![8, 256, 256]⟩
abbrev S8x256 : Shape := ⟨2, ![8, 256]⟩
abbrev S_ : Shape := ⟨0, ![]⟩
abbrev S1x96x1x1 : Shape := ⟨4, ![1, 96, 1, 1]⟩
abbrev S4x256 : Shape := ⟨2, ![4, 256]⟩
abbrev S4x256x224x224 : Shape := ⟨4, ![4, 256, 224, 224]⟩
abbrev S4 : Shape := ⟨1, ![4]⟩
abbrev S4x1x224x224 : Shape := ⟨4, ![4, 1, 224, 224]⟩
abbrev S4x224x224 : Shape := ⟨3, ![4, 224, 224]⟩
abbrev S4x1 : Shape := ⟨2, ![4, 1]⟩
abbrev S4x2 : Shape := ⟨2, ![4, 2]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S4x256x1x1 : Shape := ⟨4, ![4, 256, 1, 1]⟩
abbrev S4x256x226x226 : Shape := ⟨4, ![4, 256, 226, 226]⟩
abbrev S96x256x1x1 : Shape := ⟨4, ![96, 256, 1, 1]⟩
abbrev S96x256 : Shape := ⟨2, ![96, 256]⟩
abbrev S96x4x224x224 : Shape := ⟨4, ![96, 4, 224, 224]⟩

abbrev nBuf : Space → Nat
  | .hbm => 660
  | .vmem => 0
  | .smem => 0
  | _ => 0

abbrev hbmTy0_0 (i : Nat) : BufTy := match i % 128 with
  | 0 => ⟨S4x96x224x224, .f32⟩
  | 1 => ⟨S4x8x224x224, .f32⟩
  | 2 => ⟨S4x9x256, .f32⟩
  | 3 => ⟨S4x8, .i32⟩
  | 4 => ⟨S96, .f32⟩
  | 5 => ⟨S96, .f32⟩
  | 6 => ⟨S96x256x3x3, .f32⟩
  | 7 => ⟨S96, .f32⟩
  | 8 => ⟨S96x256x3x3, .f32⟩
  | 9 => ⟨S96, .f32⟩
  | 10 => ⟨S8x256x256, .f32⟩
  | 11 => ⟨S8x256, .f32⟩
  | 12 => ⟨S_, .f32⟩
  | 13 => ⟨S96, .f32⟩
  | 14 => ⟨S1x96x1x1, .f32⟩
  | 15 => ⟨S_, .f32⟩
  | 16 => ⟨S1x96x1x1, .f32⟩
  | 17 => ⟨S1x96x1x1, .f32⟩
  | 18 => ⟨S_, .i32⟩
  | 19 => ⟨S_, .f32⟩
  | 20 => ⟨S96, .f32⟩
  | 21 => ⟨S1x96x1x1, .f32⟩
  | 22 => ⟨S_, .f32⟩
  | 23 => ⟨S1x96x1x1, .f32⟩
  | 24 => ⟨S1x96x1x1, .f32⟩
  | 25 => ⟨S4x96x224x224, .f32⟩
  | 26 => ⟨S4x96x224x224, .f32⟩
  | 27 => ⟨S4x96x224x224, .f32⟩
  | 28 => ⟨S_, .f32⟩
  | 29 => ⟨S_, .f32⟩
  | 30 => ⟨S_, .f32⟩
  | 31 => ⟨S_, .f32⟩
  | 32 => ⟨S96, .f32⟩
  | 33 => ⟨S1x96x1x1, .f32⟩
  | 34 => ⟨S1x96x1x1, .f32⟩
  | 35 => ⟨S1x96x1x1, .f32⟩
  | 36 => ⟨S_, .f32⟩
  | 37 => ⟨S_, .i1⟩
  | 38 => ⟨S_, .f32⟩
  | 39 => ⟨S_, .f32⟩
  | 40 => ⟨S1x96x1x1, .f32⟩
  | 41 => ⟨S1x96x1x1, .f32⟩
  | 42 => ⟨S4x96x224x224, .f32⟩
  | 43 => ⟨S4x96x224x224, .f32⟩
  | 44 => ⟨S_, .f32⟩
  | 45 => ⟨S1x96x1x1, .f32⟩
  | 46 => ⟨S1x96x1x1, .f32⟩
  | 47 => ⟨S1x96x1x1, .f32⟩
  | 48 => ⟨S4x96x224x224, .f32⟩
  | 49 => ⟨S4x96x224x224, .f32⟩
  | 50 => ⟨S1x96x1x1, .f32⟩
  | 51 => ⟨S4x96x224x224, .f32⟩
  | 52 => ⟨S4x96x224x224, .f32⟩
  | 53 => ⟨S1x96x1x1, .f32⟩
  | 54 => ⟨S4x96x224x224, .f32⟩
  | 55 => ⟨S4x96x224x224, .f32⟩
  | 56 => ⟨S_, .f32⟩
  | 57 => ⟨S4x8x224x224, .f32⟩
  | 58 => ⟨S4x8x224x224, .i1⟩
  | 59 => ⟨S_, .f32⟩
  | 60 => ⟨S4x256, .f32⟩
  | 61 => ⟨S_, .f32⟩
  | 62 => ⟨S4x256, .f32⟩
  | 63 => ⟨S4x256, .f32⟩
  | 64 => ⟨S_, .f32⟩
  | 65 => ⟨S4x256x224x224, .f32⟩
  | 66 => ⟨S4, .i32⟩
  | 67 => ⟨S4x1x224x224, .i1⟩
  | 68 => ⟨S4x224x224, .i1⟩
  | 69 => ⟨S4x224x224, .i32⟩
  | 70 => ⟨S_, .i32⟩
  | 71 => ⟨S4, .i32⟩
  | 72 => ⟨S4x1, .i32⟩
  | 73 => ⟨S4, .i32⟩
  | 74 => ⟨S_, .i32⟩
  | 75 => ⟨S4, .i32⟩
  | 76 => ⟨S4, .i1⟩
  | 77 => ⟨S_, .i32⟩
  | 78 => ⟨S_, .i32⟩
  | 79 => ⟨S4, .i32⟩
  | 80 => ⟨S4, .i32⟩
  | 81 => ⟨S4, .i32⟩
  | 82 => ⟨S_, .i32⟩
  | 83 => ⟨S4, .i32⟩
  | 84 => ⟨S4, .i1⟩
  | 85 => ⟨S_, .i32⟩
  | 86 => ⟨S4, .i32⟩
  | 87 => ⟨S4, .i32⟩
  | 88 => ⟨S4, .i32⟩
  | 89 => ⟨S_, .i32⟩
  | 90 => ⟨S4, .i32⟩
  | 91 => ⟨S4, .i1⟩
  | 92 => ⟨S_, .i32⟩
  | 93 => ⟨S4, .i32⟩
  | 94 => ⟨S4, .i32⟩
  | 95 => ⟨S4, .i32⟩
  | 96 => ⟨S4x1, .i32⟩
  | 97 => ⟨S4x1, .i32⟩
  | 98 => ⟨S4x2, .i32⟩
  | 99 => ⟨S4x256, .f32⟩
  | 100 => ⟨S_, .i32⟩
  | 101 => ⟨S4, .i32⟩
  | 102 => ⟨S4, .i1⟩
  | 103 => ⟨S4x1, .i1⟩
  | 104 => ⟨S4x256, .i1⟩
  | 105 => ⟨S4x256, .f32⟩
  | 106 => ⟨S1x256x256, .f32⟩
  | 107 => ⟨S256x256, .f32⟩
  | 108 => ⟨S256x256, .f32⟩
  | 109 => ⟨S4x256, .f32⟩
  | 110 => ⟨S1x256, .f32⟩
  | 111 => ⟨S256, .f32⟩
  | 112 => ⟨S1x256, .f32⟩
  | 113 => ⟨S4x256, .f32⟩
  | 114 => ⟨S4x256, .f32⟩
  | 115 => ⟨S_, .f32⟩
  | 116 => ⟨S4x256, .f32⟩
  | 117 => ⟨S4x256, .f32⟩
  | 118 => ⟨S4x1x224x224, .i1⟩
  | 119 => ⟨S4x224x224, .i1⟩
  | 120 => ⟨S4x1x224x224, .i1⟩
  | 121 => ⟨S4x256x1x1, .f32⟩
  | 122 => ⟨S4x256x224x224, .i1⟩
  | 123 => ⟨S4x256x224x224, .f32⟩
  | 124 => ⟨S4x256x224x224, .f32⟩
  | 125 => ⟨S4x1x224x224, .i1⟩
  | 126 => ⟨S4x224x224, .i1⟩
  | 127 => ⟨S4x224x224, .i32⟩
  | _ => ⟨S4x96x224x224, .f32⟩

abbrev hbmTy0_1 (i : Nat) : BufTy := match i % 128 with
  | 0 => ⟨S_, .i32⟩
  | 1 => ⟨S4, .i32⟩
  | 2 => ⟨S4x1, .i32⟩
  | 3 => ⟨S4, .i32⟩
  | 4 => ⟨S_, .i32⟩
  | 5 => ⟨S4, .i32⟩
  | 6 => ⟨S4, .i1⟩
  | 7 => ⟨S_, .i32⟩
  | 8 => ⟨S_, .i32⟩
  | 9 => ⟨S4, .i32⟩
  | 10 => ⟨S4, .i32⟩
  | 11 => ⟨S4, .i32⟩
  | 12 => ⟨S_, .i32⟩
  | 13 => ⟨S4, .i32⟩
  | 14 => ⟨S4, .i1⟩
  | 15 => ⟨S_, .i32⟩
  | 16 => ⟨S4, .i32⟩
  | 17 => ⟨S4, .i32⟩
  | 18 => ⟨S4, .i32⟩
  | 19 => ⟨S_, .i32⟩
  | 20 => ⟨S4, .i32⟩
  | 21 => ⟨S4, .i1⟩
  | 22 => ⟨S_, .i32⟩
  | 23 => ⟨S4, .i32⟩
  | 24 => ⟨S4, .i32⟩
  | 25 => ⟨S4, .i32⟩
  | 26 => ⟨S4x1, .i32⟩
  | 27 => ⟨S4x1, .i32⟩
  | 28 => ⟨S4x2, .i32⟩
  | 29 => ⟨S4x256, .f32⟩
  | 30 => ⟨S_, .i32⟩
  | 31 => ⟨S4, .i32⟩
  | 32 => ⟨S4, .i1⟩
  | 33 => ⟨S4x1, .i1⟩
  | 34 => ⟨S4x256, .i1⟩
  | 35 => ⟨S4x256, .f32⟩
  | 36 => ⟨S1x256x256, .f32⟩
  | 37 => ⟨S256x256, .f32⟩
  | 38 => ⟨S256x256, .f32⟩
  | 39 => ⟨S4x256, .f32⟩
  | 40 => ⟨S1x256, .f32⟩
  | 41 => ⟨S256, .f32⟩
  | 42 => ⟨S1x256, .f32⟩
  | 43 => ⟨S4x256, .f32⟩
  | 44 => ⟨S4x256, .f32⟩
  | 45 => ⟨S_, .f32⟩
  | 46 => ⟨S4x256, .f32⟩
  | 47 => ⟨S4x256, .f32⟩
  | 48 => ⟨S4x1x224x224, .i1⟩
  | 49 => ⟨S4x224x224, .i1⟩
  | 50 => ⟨S4x1x224x224, .i1⟩
  | 51 => ⟨S4x256x1x1, .f32⟩
  | 52 => ⟨S4x256x224x224, .i1⟩
  | 53 => ⟨S4x256x224x224, .f32⟩
  | 54 => ⟨S4x256x224x224, .f32⟩
  | 55 => ⟨S4x1x224x224, .i1⟩
  | 56 => ⟨S4x224x224, .i1⟩
  | 57 => ⟨S4x224x224, .i32⟩
  | 58 => ⟨S_, .i32⟩
  | 59 => ⟨S4, .i32⟩
  | 60 => ⟨S4x1, .i32⟩
  | 61 => ⟨S4, .i32⟩
  | 62 => ⟨S_, .i32⟩
  | 63 => ⟨S4, .i32⟩
  | 64 => ⟨S4, .i1⟩
  | 65 => ⟨S_, .i32⟩
  | 66 => ⟨S_, .i32⟩
  | 67 => ⟨S4, .i32⟩
  | 68 => ⟨S4, .i32⟩
  | 69 => ⟨S4, .i32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i1⟩
  | 80 => ⟨S_, .i32⟩
  | 81 => ⟨S4, .i32⟩
  | 82 => ⟨S4, .i32⟩
  | 83 => ⟨S4, .i32⟩
  | 84 => ⟨S4x1, .i32⟩
  | 85 => ⟨S4x1, .i32⟩
  | 86 => ⟨S4x2, .i32⟩
  | 87 => ⟨S4x256, .f32⟩
  | 88 => ⟨S_, .i32⟩
  | 89 => ⟨S4, .i32⟩
  | 90 => ⟨S4, .i1⟩
  | 91 => ⟨S4x1, .i1⟩
  | 92 => ⟨S4x256, .i1⟩
  | 93 => ⟨S4x256, .f32⟩
  | 94 => ⟨S1x256x256, .f32⟩
  | 95 => ⟨S256x256, .f32⟩
  | 96 => ⟨S256x256, .f32⟩
  | 97 => ⟨S4x256, .f32⟩
  | 98 => ⟨S1x256, .f32⟩
  | 99 => ⟨S256, .f32⟩
  | 100 => ⟨S1x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S4x1x224x224, .i1⟩
  | 107 => ⟨S4x224x224, .i1⟩
  | 108 => ⟨S4x1x224x224, .i1⟩
  | 109 => ⟨S4x256x1x1, .f32⟩
  | 110 => ⟨S4x256x224x224, .i1⟩
  | 111 => ⟨S4x256x224x224, .f32⟩
  | 112 => ⟨S4x256x224x224, .f32⟩
  | 113 => ⟨S4x1x224x224, .i1⟩
  | 114 => ⟨S4x224x224, .i1⟩
  | 115 => ⟨S4x224x224, .i32⟩
  | 116 => ⟨S_, .i32⟩
  | 117 => ⟨S4, .i32⟩
  | 118 => ⟨S4x1, .i32⟩
  | 119 => ⟨S4, .i32⟩
  | 120 => ⟨S_, .i32⟩
  | 121 => ⟨S4, .i32⟩
  | 122 => ⟨S4, .i1⟩
  | 123 => ⟨S_, .i32⟩
  | 124 => ⟨S_, .i32⟩
  | 125 => ⟨S4, .i32⟩
  | 126 => ⟨S4, .i32⟩
  | 127 => ⟨S4, .i32⟩
  | _ => ⟨S4x96x224x224, .f32⟩

abbrev hbmTy0_2 (i : Nat) : BufTy := match i % 128 with
  | 0 => ⟨S_, .i32⟩
  | 1 => ⟨S4, .i32⟩
  | 2 => ⟨S4, .i1⟩
  | 3 => ⟨S_, .i32⟩
  | 4 => ⟨S4, .i32⟩
  | 5 => ⟨S4, .i32⟩
  | 6 => ⟨S4, .i32⟩
  | 7 => ⟨S_, .i32⟩
  | 8 => ⟨S4, .i32⟩
  | 9 => ⟨S4, .i1⟩
  | 10 => ⟨S_, .i32⟩
  | 11 => ⟨S4, .i32⟩
  | 12 => ⟨S4, .i32⟩
  | 13 => ⟨S4, .i32⟩
  | 14 => ⟨S4x1, .i32⟩
  | 15 => ⟨S4x1, .i32⟩
  | 16 => ⟨S4x2, .i32⟩
  | 17 => ⟨S4x256, .f32⟩
  | 18 => ⟨S_, .i32⟩
  | 19 => ⟨S4, .i32⟩
  | 20 => ⟨S4, .i1⟩
  | 21 => ⟨S4x1, .i1⟩
  | 22 => ⟨S4x256, .i1⟩
  | 23 => ⟨S4x256, .f32⟩
  | 24 => ⟨S1x256x256, .f32⟩
  | 25 => ⟨S256x256, .f32⟩
  | 26 => ⟨S256x256, .f32⟩
  | 27 => ⟨S4x256, .f32⟩
  | 28 => ⟨S1x256, .f32⟩
  | 29 => ⟨S256, .f32⟩
  | 30 => ⟨S1x256, .f32⟩
  | 31 => ⟨S4x256, .f32⟩
  | 32 => ⟨S4x256, .f32⟩
  | 33 => ⟨S_, .f32⟩
  | 34 => ⟨S4x256, .f32⟩
  | 35 => ⟨S4x256, .f32⟩
  | 36 => ⟨S4x1x224x224, .i1⟩
  | 37 => ⟨S4x224x224, .i1⟩
  | 38 => ⟨S4x1x224x224, .i1⟩
  | 39 => ⟨S4x256x1x1, .f32⟩
  | 40 => ⟨S4x256x224x224, .i1⟩
  | 41 => ⟨S4x256x224x224, .f32⟩
  | 42 => ⟨S4x256x224x224, .f32⟩
  | 43 => ⟨S4x1x224x224, .i1⟩
  | 44 => ⟨S4x224x224, .i1⟩
  | 45 => ⟨S4x224x224, .i32⟩
  | 46 => ⟨S_, .i32⟩
  | 47 => ⟨S4, .i32⟩
  | 48 => ⟨S4x1, .i32⟩
  | 49 => ⟨S4, .i32⟩
  | 50 => ⟨S_, .i32⟩
  | 51 => ⟨S4, .i32⟩
  | 52 => ⟨S4, .i1⟩
  | 53 => ⟨S_, .i32⟩
  | 54 => ⟨S_, .i32⟩
  | 55 => ⟨S4, .i32⟩
  | 56 => ⟨S4, .i32⟩
  | 57 => ⟨S4, .i32⟩
  | 58 => ⟨S_, .i32⟩
  | 59 => ⟨S4, .i32⟩
  | 60 => ⟨S4, .i1⟩
  | 61 => ⟨S_, .i32⟩
  | 62 => ⟨S4, .i32⟩
  | 63 => ⟨S4, .i32⟩
  | 64 => ⟨S4, .i32⟩
  | 65 => ⟨S_, .i32⟩
  | 66 => ⟨S4, .i32⟩
  | 67 => ⟨S4, .i1⟩
  | 68 => ⟨S_, .i32⟩
  | 69 => ⟨S4, .i32⟩
  | 70 => ⟨S4, .i32⟩
  | 71 => ⟨S4, .i32⟩
  | 72 => ⟨S4x1, .i32⟩
  | 73 => ⟨S4x1, .i32⟩
  | 74 => ⟨S4x2, .i32⟩
  | 75 => ⟨S4x256, .f32⟩
  | 76 => ⟨S_, .i32⟩
  | 77 => ⟨S4, .i32⟩
  | 78 => ⟨S4, .i1⟩
  | 79 => ⟨S4x1, .i1⟩
  | 80 => ⟨S4x256, .i1⟩
  | 81 => ⟨S4x256, .f32⟩
  | 82 => ⟨S1x256x256, .f32⟩
  | 83 => ⟨S256x256, .f32⟩
  | 84 => ⟨S256x256, .f32⟩
  | 85 => ⟨S4x256, .f32⟩
  | 86 => ⟨S1x256, .f32⟩
  | 87 => ⟨S256, .f32⟩
  | 88 => ⟨S1x256, .f32⟩
  | 89 => ⟨S4x256, .f32⟩
  | 90 => ⟨S4x256, .f32⟩
  | 91 => ⟨S_, .f32⟩
  | 92 => ⟨S4x256, .f32⟩
  | 93 => ⟨S4x256, .f32⟩
  | 94 => ⟨S4x1x224x224, .i1⟩
  | 95 => ⟨S4x224x224, .i1⟩
  | 96 => ⟨S4x1x224x224, .i1⟩
  | 97 => ⟨S4x256x1x1, .f32⟩
  | 98 => ⟨S4x256x224x224, .i1⟩
  | 99 => ⟨S4x256x224x224, .f32⟩
  | 100 => ⟨S4x256x224x224, .f32⟩
  | 101 => ⟨S4x1x224x224, .i1⟩
  | 102 => ⟨S4x224x224, .i1⟩
  | 103 => ⟨S4x224x224, .i32⟩
  | 104 => ⟨S_, .i32⟩
  | 105 => ⟨S4, .i32⟩
  | 106 => ⟨S4x1, .i32⟩
  | 107 => ⟨S4, .i32⟩
  | 108 => ⟨S_, .i32⟩
  | 109 => ⟨S4, .i32⟩
  | 110 => ⟨S4, .i1⟩
  | 111 => ⟨S_, .i32⟩
  | 112 => ⟨S_, .i32⟩
  | 113 => ⟨S4, .i32⟩
  | 114 => ⟨S4, .i32⟩
  | 115 => ⟨S4, .i32⟩
  | 116 => ⟨S_, .i32⟩
  | 117 => ⟨S4, .i32⟩
  | 118 => ⟨S4, .i1⟩
  | 119 => ⟨S_, .i32⟩
  | 120 => ⟨S4, .i32⟩
  | 121 => ⟨S4, .i32⟩
  | 122 => ⟨S4, .i32⟩
  | 123 => ⟨S_, .i32⟩
  | 124 => ⟨S4, .i32⟩
  | 125 => ⟨S4, .i1⟩
  | 126 => ⟨S_, .i32⟩
  | 127 => ⟨S4, .i32⟩
  | _ => ⟨S4x96x224x224, .f32⟩

abbrev hbmTy0_3 (i : Nat) : BufTy := match i % 128 with
  | 0 => ⟨S4, .i32⟩
  | 1 => ⟨S4, .i32⟩
  | 2 => ⟨S4x1, .i32⟩
  | 3 => ⟨S4x1, .i32⟩
  | 4 => ⟨S4x2, .i32⟩
  | 5 => ⟨S4x256, .f32⟩
  | 6 => ⟨S_, .i32⟩
  | 7 => ⟨S4, .i32⟩
  | 8 => ⟨S4, .i1⟩
  | 9 => ⟨S4x1, .i1⟩
  | 10 => ⟨S4x256, .i1⟩
  | 11 => ⟨S4x256, .f32⟩
  | 12 => ⟨S1x256x256, .f32⟩
  | 13 => ⟨S256x256, .f32⟩
  | 14 => ⟨S256x256, .f32⟩
  | 15 => ⟨S4x256, .f32⟩
  | 16 => ⟨S1x256, .f32⟩
  | 17 => ⟨S256, .f32⟩
  | 18 => ⟨S1x256, .f32⟩
  | 19 => ⟨S4x256, .f32⟩
  | 20 => ⟨S4x256, .f32⟩
  | 21 => ⟨S_, .f32⟩
  | 22 => ⟨S4x256, .f32⟩
  | 23 => ⟨S4x256, .f32⟩
  | 24 => ⟨S4x1x224x224, .i1⟩
  | 25 => ⟨S4x224x224, .i1⟩
  | 26 => ⟨S4x1x224x224, .i1⟩
  | 27 => ⟨S4x256x1x1, .f32⟩
  | 28 => ⟨S4x256x224x224, .i1⟩
  | 29 => ⟨S4x256x224x224, .f32⟩
  | 30 => ⟨S4x256x224x224, .f32⟩
  | 31 => ⟨S4x1x224x224, .i1⟩
  | 32 => ⟨S4x224x224, .i1⟩
  | 33 => ⟨S4x224x224, .i32⟩
  | 34 => ⟨S_, .i32⟩
  | 35 => ⟨S4, .i32⟩
  | 36 => ⟨S4x1, .i32⟩
  | 37 => ⟨S4, .i32⟩
  | 38 => ⟨S_, .i32⟩
  | 39 => ⟨S4, .i32⟩
  | 40 => ⟨S4, .i1⟩
  | 41 => ⟨S_, .i32⟩
  | 42 => ⟨S_, .i32⟩
  | 43 => ⟨S4, .i32⟩
  | 44 => ⟨S4, .i32⟩
  | 45 => ⟨S4, .i32⟩
  | 46 => ⟨S_, .i32⟩
  | 47 => ⟨S4, .i32⟩
  | 48 => ⟨S4, .i1⟩
  | 49 => ⟨S_, .i32⟩
  | 50 => ⟨S4, .i32⟩
  | 51 => ⟨S4, .i32⟩
  | 52 => ⟨S4, .i32⟩
  | 53 => ⟨S_, .i32⟩
  | 54 => ⟨S4, .i32⟩
  | 55 => ⟨S4, .i1⟩
  | 56 => ⟨S_, .i32⟩
  | 57 => ⟨S4, .i32⟩
  | 58 => ⟨S4, .i32⟩
  | 59 => ⟨S4, .i32⟩
  | 60 => ⟨S4x1, .i32⟩
  | 61 => ⟨S4x1, .i32⟩
  | 62 => ⟨S4x2, .i32⟩
  | 63 => ⟨S4x256, .f32⟩
  | 64 => ⟨S_, .i32⟩
  | 65 => ⟨S4, .i32⟩
  | 66 => ⟨S4, .i1⟩
  | 67 => ⟨S4x1, .i1⟩
  | 68 => ⟨S4x256, .i1⟩
  | 69 => ⟨S4x256, .f32⟩
  | 70 => ⟨S1x256x256, .f32⟩
  | 71 => ⟨S256x256, .f32⟩
  | 72 => ⟨S256x256, .f32⟩
  | 73 => ⟨S4x256, .f32⟩
  | 74 => ⟨S1x256, .f32⟩
  | 75 => ⟨S256, .f32⟩
  | 76 => ⟨S1x256, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S4x1x224x224, .i1⟩
  | 83 => ⟨S4x224x224, .i1⟩
  | 84 => ⟨S4x1x224x224, .i1⟩
  | 85 => ⟨S4x256x1x1, .f32⟩
  | 86 => ⟨S4x256x224x224, .i1⟩
  | 87 => ⟨S4x256x224x224, .f32⟩
  | 88 => ⟨S4x256x224x224, .f32⟩
  | 89 => ⟨S4x1x224x224, .i1⟩
  | 90 => ⟨S4x224x224, .i1⟩
  | 91 => ⟨S4x224x224, .i32⟩
  | 92 => ⟨S_, .i32⟩
  | 93 => ⟨S4, .i32⟩
  | 94 => ⟨S4x1, .i32⟩
  | 95 => ⟨S4, .i32⟩
  | 96 => ⟨S_, .i32⟩
  | 97 => ⟨S4, .i32⟩
  | 98 => ⟨S4, .i1⟩
  | 99 => ⟨S_, .i32⟩
  | 100 => ⟨S_, .i32⟩
  | 101 => ⟨S4, .i32⟩
  | 102 => ⟨S4, .i32⟩
  | 103 => ⟨S4, .i32⟩
  | 104 => ⟨S_, .i32⟩
  | 105 => ⟨S4, .i32⟩
  | 106 => ⟨S4, .i1⟩
  | 107 => ⟨S_, .i32⟩
  | 108 => ⟨S4, .i32⟩
  | 109 => ⟨S4, .i32⟩
  | 110 => ⟨S4, .i32⟩
  | 111 => ⟨S_, .i32⟩
  | 112 => ⟨S4, .i32⟩
  | 113 => ⟨S4, .i1⟩
  | 114 => ⟨S_, .i32⟩
  | 115 => ⟨S4, .i32⟩
  | 116 => ⟨S4, .i32⟩
  | 117 => ⟨S4, .i32⟩
  | 118 => ⟨S4x1, .i32⟩
  | 119 => ⟨S4x1, .i32⟩
  | 120 => ⟨S4x2, .i32⟩
  | 121 => ⟨S4x256, .f32⟩
  | 122 => ⟨S_, .i32⟩
  | 123 => ⟨S4, .i32⟩
  | 124 => ⟨S4, .i1⟩
  | 125 => ⟨S4x1, .i1⟩
  | 126 => ⟨S4x256, .i1⟩
  | 127 => ⟨S4x256, .f32⟩
  | _ => ⟨S4x96x224x224, .f32⟩

abbrev hbmTy0_4 (i : Nat) : BufTy := match i % 128 with
  | 0 => ⟨S1x256x256, .f32⟩
  | 1 => ⟨S256x256, .f32⟩
  | 2 => ⟨S256x256, .f32⟩
  | 3 => ⟨S4x256, .f32⟩
  | 4 => ⟨S1x256, .f32⟩
  | 5 => ⟨S256, .f32⟩
  | 6 => ⟨S1x256, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S4x1x224x224, .i1⟩
  | 13 => ⟨S4x224x224, .i1⟩
  | 14 => ⟨S4x1x224x224, .i1⟩
  | 15 => ⟨S4x256x1x1, .f32⟩
  | 16 => ⟨S4x256x224x224, .i1⟩
  | 17 => ⟨S4x256x224x224, .f32⟩
  | 18 => ⟨S4x256x224x224, .f32⟩
  | 19 => ⟨S_, .i32⟩
  | 20 => ⟨S_, .f32⟩
  | 21 => ⟨S4x256x226x226, .f32⟩
  | 22 => ⟨S_, .f32⟩
  | 23 => ⟨S4x96x224x224, .f32⟩
  | 24 => ⟨S4x256x224x224, .f32⟩
  | 25 => ⟨S96x256x1x1, .f32⟩
  | 26 => ⟨S96x256, .f32⟩
  | 27 => ⟨S96x4x224x224, .f32⟩
  | 28 => ⟨S4x96x224x224, .f32⟩
  | 29 => ⟨S4x96x224x224, .f32⟩
  | 30 => ⟨S4x256x224x224, .f32⟩
  | 31 => ⟨S96x256x1x1, .f32⟩
  | 32 => ⟨S96x256, .f32⟩
  | 33 => ⟨S96x4x224x224, .f32⟩
  | 34 => ⟨S4x96x224x224, .f32⟩
  | 35 => ⟨S4x96x224x224, .f32⟩
  | 36 => ⟨S4x256x224x224, .f32⟩
  | 37 => ⟨S96x256x1x1, .f32⟩
  | 38 => ⟨S96x256, .f32⟩
  | 39 => ⟨S96x4x224x224, .f32⟩
  | 40 => ⟨S4x96x224x224, .f32⟩
  | 41 => ⟨S4x96x224x224, .f32⟩
  | 42 => ⟨S4x256x224x224, .f32⟩
  | 43 => ⟨S96x256x1x1, .f32⟩
  | 44 => ⟨S96x256, .f32⟩
  | 45 => ⟨S96x4x224x224, .f32⟩
  | 46 => ⟨S4x96x224x224, .f32⟩
  | 47 => ⟨S4x96x224x224, .f32⟩
  | 48 => ⟨S4x256x224x224, .f32⟩
  | 49 => ⟨S96x256x1x1, .f32⟩
  | 50 => ⟨S96x256, .f32⟩
  | 51 => ⟨S96x4x224x224, .f32⟩
  | 52 => ⟨S4x96x224x224, .f32⟩
  | 53 => ⟨S4x96x224x224, .f32⟩
  | 54 => ⟨S4x256x224x224, .f32⟩
  | 55 => ⟨S96x256x1x1, .f32⟩
  | 56 => ⟨S96x256, .f32⟩
  | 57 => ⟨S96x4x224x224, .f32⟩
  | 58 => ⟨S4x96x224x224, .f32⟩
  | 59 => ⟨S4x96x224x224, .f32⟩
  | 60 => ⟨S4x256x224x224, .f32⟩
  | 61 => ⟨S96x256x1x1, .f32⟩
  | 62 => ⟨S96x256, .f32⟩
  | 63 => ⟨S96x4x224x224, .f32⟩
  | 64 => ⟨S4x96x224x224, .f32⟩
  | 65 => ⟨S4x96x224x224, .f32⟩
  | 66 => ⟨S4x256x224x224, .f32⟩
  | 67 => ⟨S96x256x1x1, .f32⟩
  | 68 => ⟨S96x256, .f32⟩
  | 69 => ⟨S96x4x224x224, .f32⟩
  | 70 => ⟨S4x96x224x224, .f32⟩
  | 71 => ⟨S4x96x224x224, .f32⟩
  | 72 => ⟨S4x256x224x224, .f32⟩
  | 73 => ⟨S96x256x1x1, .f32⟩
  | 74 => ⟨S96x256, .f32⟩
  | 75 => ⟨S96x4x224x224, .f32⟩
  | 76 => ⟨S4x96x224x224, .f32⟩
  | 77 => ⟨S4x96x224x224, .f32⟩
  | 78 => ⟨S1x96x1x1, .f32⟩
  | 79 => ⟨S4x96x224x224, .f32⟩
  | 80 => ⟨S4x96x224x224, .f32⟩
  | 81 => ⟨S_, .i32⟩
  | 82 => ⟨S_, .f32⟩
  | 83 => ⟨S4x256x226x226, .f32⟩
  | 84 => ⟨S_, .f32⟩
  | 85 => ⟨S4x96x224x224, .f32⟩
  | 86 => ⟨S4x256x224x224, .f32⟩
  | 87 => ⟨S96x256x1x1, .f32⟩
  | 88 => ⟨S96x256, .f32⟩
  | 89 => ⟨S96x4x224x224, .f32⟩
  | 90 => ⟨S4x96x224x224, .f32⟩
  | 91 => ⟨S4x96x224x224, .f32⟩
  | 92 => ⟨S4x256x224x224, .f32⟩
  | 93 => ⟨S96x256x1x1, .f32⟩
  | 94 => ⟨S96x256, .f32⟩
  | 95 => ⟨S96x4x224x224, .f32⟩
  | 96 => ⟨S4x96x224x224, .f32⟩
  | 97 => ⟨S4x96x224x224, .f32⟩
  | 98 => ⟨S4x256x224x224, .f32⟩
  | 99 => ⟨S96x256x1x1, .f32⟩
  | 100 => ⟨S96x256, .f32⟩
  | 101 => ⟨S96x4x224x224, .f32⟩
  | 102 => ⟨S4x96x224x224, .f32⟩
  | 103 => ⟨S4x96x224x224, .f32⟩
  | 104 => ⟨S4x256x224x224, .f32⟩
  | 105 => ⟨S96x256x1x1, .f32⟩
  | 106 => ⟨S96x256, .f32⟩
  | 107 => ⟨S96x4x224x224, .f32⟩
  | 108 => ⟨S4x96x224x224, .f32⟩
  | 109 => ⟨S4x96x224x224, .f32⟩
  | 110 => ⟨S4x256x224x224, .f32⟩
  | 111 => ⟨S96x256x1x1, .f32⟩
  | 112 => ⟨S96x256, .f32⟩
  | 113 => ⟨S96x4x224x224, .f32⟩
  | 114 => ⟨S4x96x224x224, .f32⟩
  | 115 => ⟨S4x96x224x224, .f32⟩
  | 116 => ⟨S4x256x224x224, .f32⟩
  | 117 => ⟨S96x256x1x1, .f32⟩
  | 118 => ⟨S96x256, .f32⟩
  | 119 => ⟨S96x4x224x224, .f32⟩
  | 120 => ⟨S4x96x224x224, .f32⟩
  | 121 => ⟨S4x96x224x224, .f32⟩
  | 122 => ⟨S4x256x224x224, .f32⟩
  | 123 => ⟨S96x256x1x1, .f32⟩
  | 124 => ⟨S96x256, .f32⟩
  | 125 => ⟨S96x4x224x224, .f32⟩
  | 126 => ⟨S4x96x224x224, .f32⟩
  | 127 => ⟨S4x96x224x224, .f32⟩
  | _ => ⟨S4x96x224x224, .f32⟩

abbrev hbmTy0_5 (i : Nat) : BufTy := match i % 128 with
  | 0 => ⟨S4x256x224x224, .f32⟩
  | 1 => ⟨S96x256x1x1, .f32⟩
  | 2 => ⟨S96x256, .f32⟩
  | 3 => ⟨S96x4x224x224, .f32⟩
  | 4 => ⟨S4x96x224x224, .f32⟩
  | 5 => ⟨S4x96x224x224, .f32⟩
  | 6 => ⟨S4x256x224x224, .f32⟩
  | 7 => ⟨S96x256x1x1, .f32⟩
  | 8 => ⟨S96x256, .f32⟩
  | 9 => ⟨S96x4x224x224, .f32⟩
  | 10 => ⟨S4x96x224x224, .f32⟩
  | 11 => ⟨S4x96x224x224, .f32⟩
  | 12 => ⟨S1x96x1x1, .f32⟩
  | 13 => ⟨S4x96x224x224, .f32⟩
  | 14 => ⟨S4x96x224x224, .f32⟩
  | 15 => ⟨S_, .f32⟩
  | 16 => ⟨S4x96x224x224, .f32⟩
  | 17 => ⟨S4x96x224x224, .f32⟩
  | 18 => ⟨S4x96x224x224, .f32⟩
  | 19 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst_1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_v19 : Ref sig .tc := ⟨.hbm, 58, rfl⟩
abbrev main_cst_3 : Ref sig .tc := ⟨.hbm, 59, rfl⟩
abbrev main_v20 : Ref sig .tc := ⟨.hbm, 60, rfl⟩
abbrev main_cst_4 : Ref sig .tc := ⟨.hbm, 61, rfl⟩
abbrev main_v21 : Ref sig .tc := ⟨.hbm, 62, rfl⟩
abbrev main_v22 : Ref sig .tc := ⟨.hbm, 63, rfl⟩
abbrev main_cst_5 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_6 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_7 : Ref sig .tc := ⟨.hbm, 74, rfl⟩
abbrev main_v31 : Ref sig .tc := ⟨.hbm, 75, rfl⟩
abbrev main_v32 : Ref sig .tc := ⟨.hbm, 76, rfl⟩
abbrev main_c_8 : Ref sig .tc := ⟨.hbm, 77, rfl⟩
abbrev main_c_9 : Ref sig .tc := ⟨.hbm, 78, rfl⟩
abbrev main_call1_v0 : Ref sig .tc := ⟨.hbm, 79, rfl⟩
abbrev main_call1_v1 : Ref sig .tc := ⟨.hbm, 80, rfl⟩
abbrev main_v33 : Ref sig .tc := ⟨.hbm, 81, rfl⟩
abbrev main_c_10 : Ref sig .tc := ⟨.hbm, 82, rfl⟩
abbrev main_v34 : Ref sig .tc := ⟨.hbm, 83, rfl⟩
abbrev main_v35 : Ref sig .tc := ⟨.hbm, 84, rfl⟩
abbrev main_c_11 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_c_12 : Ref sig .tc := ⟨.hbm, 89, rfl⟩
abbrev main_v39 : Ref sig .tc := ⟨.hbm, 90, rfl⟩
abbrev main_v40 : Ref sig .tc := ⟨.hbm, 91, rfl⟩
abbrev main_c_13 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_14 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_call2_v0 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_call3_cst : Ref sig .tc := ⟨.hbm, 115, rfl⟩
abbrev main_call3_v0 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_call4_v0 : Ref sig .tc := ⟨.hbm, 122, rfl⟩
abbrev main_call4_v1 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_c_15 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_c_16 : Ref sig .tc := ⟨.hbm, 132, rfl⟩
abbrev main_v73 : Ref sig .tc := ⟨.hbm, 133, rfl⟩
abbrev main_v74 : Ref sig .tc := ⟨.hbm, 134, rfl⟩
abbrev main_c_17 : Ref sig .tc := ⟨.hbm, 135, rfl⟩
abbrev main_c_18 : Ref sig .tc := ⟨.hbm, 136, rfl⟩
abbrev main_call5_v0 : Ref sig .tc := ⟨.hbm, 137, rfl⟩
abbrev main_call5_v1 : Ref sig .tc := ⟨.hbm, 138, rfl⟩
abbrev main_v75 : Ref sig .tc := ⟨.hbm, 139, rfl⟩
abbrev main_c_19 : Ref sig .tc := ⟨.hbm, 140, rfl⟩
abbrev main_v76 : Ref sig .tc := ⟨.hbm, 141, rfl⟩
abbrev main_v77 : Ref sig .tc := ⟨.hbm, 142, rfl⟩
abbrev main_c_20 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_c_21 : Ref sig .tc := ⟨.hbm, 147, rfl⟩
abbrev main_v81 : Ref sig .tc := ⟨.hbm, 148, rfl⟩
abbrev main_v82 : Ref sig .tc := ⟨.hbm, 149, rfl⟩
abbrev main_c_22 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_c_23 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_call6_v0 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_call7_cst : Ref sig .tc := ⟨.hbm, 173, rfl⟩
abbrev main_call7_v0 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_call8_v0 : Ref sig .tc := ⟨.hbm, 180, rfl⟩
abbrev main_call8_v1 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_c_24 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_c_25 : Ref sig .tc := ⟨.hbm, 190, rfl⟩
abbrev main_v115 : Ref sig .tc := ⟨.hbm, 191, rfl⟩
abbrev main_v116 : Ref sig .tc := ⟨.hbm, 192, rfl⟩
abbrev main_c_26 : Ref sig .tc := ⟨.hbm, 193, rfl⟩
abbrev main_c_27 : Ref sig .tc := ⟨.hbm, 194, rfl⟩
abbrev main_call9_v0 : Ref sig .tc := ⟨.hbm, 195, rfl⟩
abbrev main_call9_v1 : Ref sig .tc := ⟨.hbm, 196, rfl⟩
abbrev main_v117 : Ref sig .tc := ⟨.hbm, 197, rfl⟩
abbrev main_c_28 : Ref sig .tc := ⟨.hbm, 198, rfl⟩
abbrev main_v118 : Ref sig .tc := ⟨.hbm, 199, rfl⟩
abbrev main_v119 : Ref sig .tc := ⟨.hbm, 200, rfl⟩
abbrev main_c_29 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_c_30 : Ref sig .tc := ⟨.hbm, 205, rfl⟩
abbrev main_v123 : Ref sig .tc := ⟨.hbm, 206, rfl⟩
abbrev main_v124 : Ref sig .tc := ⟨.hbm, 207, rfl⟩
abbrev main_c_31 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_c_32 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_call10_v0 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_call11_cst : Ref sig .tc := ⟨.hbm, 231, rfl⟩
abbrev main_call11_v0 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_call12_v0 : Ref sig .tc := ⟨.hbm, 238, rfl⟩
abbrev main_call12_v1 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_c_33 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_c_34 : Ref sig .tc := ⟨.hbm, 248, rfl⟩
abbrev main_v157 : Ref sig .tc := ⟨.hbm, 249, rfl⟩
abbrev main_v158 : Ref sig .tc := ⟨.hbm, 250, rfl⟩
abbrev main_c_35 : Ref sig .tc := ⟨.hbm, 251, rfl⟩
abbrev main_c_36 : Ref sig .tc := ⟨.hbm, 252, rfl⟩
abbrev main_call13_v0 : Ref sig .tc := ⟨.hbm, 253, rfl⟩
abbrev main_call13_v1 : Ref sig .tc := ⟨.hbm, 254, rfl⟩
abbrev main_v159 : Ref sig .tc := ⟨.hbm, 255, rfl⟩
abbrev main_c_37 : Ref sig .tc := ⟨.hbm, 256, rfl⟩
abbrev main_v160 : Ref sig .tc := ⟨.hbm, 257, rfl⟩
abbrev main_v161 : Ref sig .tc := ⟨.hbm, 258, rfl⟩
abbrev main_c_38 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_c_39 : Ref sig .tc := ⟨.hbm, 263, rfl⟩
abbrev main_v165 : Ref sig .tc := ⟨.hbm, 264, rfl⟩
abbrev main_v166 : Ref sig .tc := ⟨.hbm, 265, rfl⟩
abbrev main_c_40 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_c_41 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_call14_v0 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_call15_cst : Ref sig .tc := ⟨.hbm, 289, rfl⟩
abbrev main_call15_v0 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_call16_v0 : Ref sig .tc := ⟨.hbm, 296, rfl⟩
abbrev main_call16_v1 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_c_42 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_c_43 : Ref sig .tc := ⟨.hbm, 306, rfl⟩
abbrev main_v199 : Ref sig .tc := ⟨.hbm, 307, rfl⟩
abbrev main_v200 : Ref sig .tc := ⟨.hbm, 308, rfl⟩
abbrev main_c_44 : Ref sig .tc := ⟨.hbm, 309, rfl⟩
abbrev main_c_45 : Ref sig .tc := ⟨.hbm, 310, rfl⟩
abbrev main_call17_v0 : Ref sig .tc := ⟨.hbm, 311, rfl⟩
abbrev main_call17_v1 : Ref sig .tc := ⟨.hbm, 312, rfl⟩
abbrev main_v201 : Ref sig .tc := ⟨.hbm, 313, rfl⟩
abbrev main_c_46 : Ref sig .tc := ⟨.hbm, 314, rfl⟩
abbrev main_v202 : Ref sig .tc := ⟨.hbm, 315, rfl⟩
abbrev main_v203 : Ref sig .tc := ⟨.hbm, 316, rfl⟩
abbrev main_c_47 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_c_48 : Ref sig .tc := ⟨.hbm, 321, rfl⟩
abbrev main_v207 : Ref sig .tc := ⟨.hbm, 322, rfl⟩
abbrev main_v208 : Ref sig .tc := ⟨.hbm, 323, rfl⟩
abbrev main_c_49 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_c_50 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_call18_v0 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_call19_cst : Ref sig .tc := ⟨.hbm, 347, rfl⟩
abbrev main_call19_v0 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_call20_v0 : Ref sig .tc := ⟨.hbm, 354, rfl⟩
abbrev main_call20_v1 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_c_51 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_c_52 : Ref sig .tc := ⟨.hbm, 364, rfl⟩
abbrev main_v241 : Ref sig .tc := ⟨.hbm, 365, rfl⟩
abbrev main_v242 : Ref sig .tc := ⟨.hbm, 366, rfl⟩
abbrev main_c_53 : Ref sig .tc := ⟨.hbm, 367, rfl⟩
abbrev main_c_54 : Ref sig .tc := ⟨.hbm, 368, rfl⟩
abbrev main_call21_v0 : Ref sig .tc := ⟨.hbm, 369, rfl⟩
abbrev main_call21_v1 : Ref sig .tc := ⟨.hbm, 370, rfl⟩
abbrev main_v243 : Ref sig .tc := ⟨.hbm, 371, rfl⟩
abbrev main_c_55 : Ref sig .tc := ⟨.hbm, 372, rfl⟩
abbrev main_v244 : Ref sig .tc := ⟨.hbm, 373, rfl⟩
abbrev main_v245 : Ref sig .tc := ⟨.hbm, 374, rfl⟩
abbrev main_c_56 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_c_57 : Ref sig .tc := ⟨.hbm, 379, rfl⟩
abbrev main_v249 : Ref sig .tc := ⟨.hbm, 380, rfl⟩
abbrev main_v250 : Ref sig .tc := ⟨.hbm, 381, rfl⟩
abbrev main_c_58 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_c_59 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_call22_v0 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_call23_cst : Ref sig .tc := ⟨.hbm, 405, rfl⟩
abbrev main_call23_v0 : Ref sig .tc := ⟨.hbm, 406, rfl⟩
abbrev main_v271 : Ref sig .tc := ⟨.hbm, 407, rfl⟩
abbrev main_v272 : Ref sig .tc := ⟨.hbm, 408, rfl⟩
abbrev main_v273 : Ref sig .tc := ⟨.hbm, 409, rfl⟩
abbrev main_v274 : Ref sig .tc := ⟨.hbm, 410, rfl⟩
abbrev main_v275 : Ref sig .tc := ⟨.hbm, 411, rfl⟩
abbrev main_call24_v0 : Ref sig .tc := ⟨.hbm, 412, rfl⟩
abbrev main_call24_v1 : Ref sig .tc := ⟨.hbm, 413, rfl⟩
abbrev main_v276 : Ref sig .tc := ⟨.hbm, 414, rfl⟩
abbrev main_v277 : Ref sig .tc := ⟨.hbm, 415, rfl⟩
abbrev main_v278 : Ref sig .tc := ⟨.hbm, 416, rfl⟩
abbrev main_v279 : Ref sig .tc := ⟨.hbm, 417, rfl⟩
abbrev main_c_60 : Ref sig .tc := ⟨.hbm, 418, rfl⟩
abbrev main_v280 : Ref sig .tc := ⟨.hbm, 419, rfl⟩
abbrev main_v281 : Ref sig .tc := ⟨.hbm, 420, rfl⟩
abbrev main_v282 : Ref sig .tc := ⟨.hbm, 421, rfl⟩
abbrev main_c_61 : Ref sig .tc := ⟨.hbm, 422, rfl⟩
abbrev main_v283 : Ref sig .tc := ⟨.hbm, 423, rfl⟩
abbrev main_v284 : Ref sig .tc := ⟨.hbm, 424, rfl⟩
abbrev main_c_62 : Ref sig .tc := ⟨.hbm, 425, rfl⟩
abbrev main_c_63 : Ref sig .tc := ⟨.hbm, 426, rfl⟩
abbrev main_call25_v0 : Ref sig .tc := ⟨.hbm, 427, rfl⟩
abbrev main_call25_v1 : Ref sig .tc := ⟨.hbm, 428, rfl⟩
abbrev main_v285 : Ref sig .tc := ⟨.hbm, 429, rfl⟩
abbrev main_c_64 : Ref sig .tc := ⟨.hbm, 430, rfl⟩
abbrev main_v286 : Ref sig .tc := ⟨.hbm, 431, rfl⟩
abbrev main_v287 : Ref sig .tc := ⟨.hbm, 432, rfl⟩
abbrev main_c_65 : Ref sig .tc := ⟨.hbm, 433, rfl⟩
abbrev main_v288 : Ref sig .tc := ⟨.hbm, 434, rfl⟩
abbrev main_v289 : Ref sig .tc := ⟨.hbm, 435, rfl⟩
abbrev main_v290 : Ref sig .tc := ⟨.hbm, 436, rfl⟩
abbrev main_c_66 : Ref sig .tc := ⟨.hbm, 437, rfl⟩
abbrev main_v291 : Ref sig .tc := ⟨.hbm, 438, rfl⟩
abbrev main_v292 : Ref sig .tc := ⟨.hbm, 439, rfl⟩
abbrev main_c_67 : Ref sig .tc := ⟨.hbm, 440, rfl⟩
abbrev main_v293 : Ref sig .tc := ⟨.hbm, 441, rfl⟩
abbrev main_v294 : Ref sig .tc := ⟨.hbm, 442, rfl⟩
abbrev main_v295 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_v299 : Ref sig .tc := ⟨.hbm, 447, rfl⟩
abbrev main_c_68 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_call26_v0 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_v308 : Ref sig .tc := ⟨.hbm, 458, rfl⟩
abbrev main_v309 : Ref sig .tc := ⟨.hbm, 459, rfl⟩
abbrev main_v310 : Ref sig .tc := ⟨.hbm, 460, rfl⟩
abbrev main_v311 : Ref sig .tc := ⟨.hbm, 461, rfl⟩
abbrev main_v312 : Ref sig .tc := ⟨.hbm, 462, rfl⟩
abbrev main_call27_cst : Ref sig .tc := ⟨.hbm, 463, rfl⟩
abbrev main_call27_v0 : Ref sig .tc := ⟨.hbm, 464, rfl⟩
abbrev main_v313 : Ref sig .tc := ⟨.hbm, 465, rfl⟩
abbrev main_v314 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_call28_v0 : Ref sig .tc := ⟨.hbm, 470, rfl⟩
abbrev main_call28_v1 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_c_69 : Ref sig .tc := ⟨.hbm, 476, rfl⟩
abbrev main_v322 : Ref sig .tc := ⟨.hbm, 477, rfl⟩
abbrev main_v323 : Ref sig .tc := ⟨.hbm, 478, rfl⟩
abbrev main_v324 : Ref sig .tc := ⟨.hbm, 479, rfl⟩
abbrev main_c_70 : Ref sig .tc := ⟨.hbm, 480, rfl⟩
abbrev main_v325 : Ref sig .tc := ⟨.hbm, 481, rfl⟩
abbrev main_v326 : Ref sig .tc := ⟨.hbm, 482, rfl⟩
abbrev main_c_71 : Ref sig .tc := ⟨.hbm, 483, rfl⟩
abbrev main_c_72 : Ref sig .tc := ⟨.hbm, 484, rfl⟩
abbrev main_call29_v0 : Ref sig .tc := ⟨.hbm, 485, rfl⟩
abbrev main_call29_v1 : Ref sig .tc := ⟨.hbm, 486, rfl⟩
abbrev main_v327 : Ref sig .tc := ⟨.hbm, 487, rfl⟩
abbrev main_c_73 : Ref sig .tc := ⟨.hbm, 488, rfl⟩
abbrev main_v328 : Ref sig .tc := ⟨.hbm, 489, rfl⟩
abbrev main_v329 : Ref sig .tc := ⟨.hbm, 490, rfl⟩
abbrev main_c_74 : Ref sig .tc := ⟨.hbm, 491, rfl⟩
abbrev main_v330 : Ref sig .tc := ⟨.hbm, 492, rfl⟩
abbrev main_v331 : Ref sig .tc := ⟨.hbm, 493, rfl⟩
abbrev main_v332 : Ref sig .tc := ⟨.hbm, 494, rfl⟩
abbrev main_c_75 : Ref sig .tc := ⟨.hbm, 495, rfl⟩
abbrev main_v333 : Ref sig .tc := ⟨.hbm, 496, rfl⟩
abbrev main_v334 : Ref sig .tc := ⟨.hbm, 497, rfl⟩
abbrev main_c_76 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_v338 : Ref sig .tc := ⟨.hbm, 502, rfl⟩
abbrev main_v339 : Ref sig .tc := ⟨.hbm, 503, rfl⟩
abbrev main_v340 : Ref sig .tc := ⟨.hbm, 504, rfl⟩
abbrev main_v341 : Ref sig .tc := ⟨.hbm, 505, rfl⟩
abbrev main_c_77 : Ref sig .tc := ⟨.hbm, 506, rfl⟩
abbrev main_v342 : Ref sig .tc := ⟨.hbm, 507, rfl⟩
abbrev main_v343 : Ref sig .tc := ⟨.hbm, 508, rfl⟩
abbrev main_v344 : Ref sig .tc := ⟨.hbm, 509, rfl⟩
abbrev main_call30_v0 : Ref sig .tc := ⟨.hbm, 510, rfl⟩
abbrev main_v345 : Ref sig .tc := ⟨.hbm, 511, rfl⟩
abbrev main_v346 : Ref sig .tc := ⟨.hbm, 512, rfl⟩
abbrev main_v347 : Ref sig .tc := ⟨.hbm, 513, rfl⟩
abbrev main_v348 : Ref sig .tc := ⟨.hbm, 514, rfl⟩
abbrev main_v349 : Ref sig .tc := ⟨.hbm, 515, rfl⟩
abbrev main_v350 : Ref sig .tc := ⟨.hbm, 516, rfl⟩
abbrev main_v351 : Ref sig .tc := ⟨.hbm, 517, rfl⟩
abbrev main_v352 : Ref sig .tc := ⟨.hbm, 518, rfl⟩
abbrev main_v353 : Ref sig .tc := ⟨.hbm, 519, rfl⟩
abbrev main_v354 : Ref sig .tc := ⟨.hbm, 520, rfl⟩
abbrev main_call31_cst : Ref sig .tc := ⟨.hbm, 521, rfl⟩
abbrev main_call31_v0 : Ref sig .tc := ⟨.hbm, 522, rfl⟩
abbrev main_v355 : Ref sig .tc := ⟨.hbm, 523, rfl⟩
abbrev main_v356 : Ref sig .tc := ⟨.hbm, 524, rfl⟩
abbrev main_v357 : Ref sig .tc := ⟨.hbm, 525, rfl⟩
abbrev main_v358 : Ref sig .tc := ⟨.hbm, 526, rfl⟩
abbrev main_v359 : Ref sig .tc := ⟨.hbm, 527, rfl⟩
abbrev main_call32_v0 : Ref sig .tc := ⟨.hbm, 528, rfl⟩
abbrev main_call32_v1 : Ref sig .tc := ⟨.hbm, 529, rfl⟩
abbrev main_v360 : Ref sig .tc := ⟨.hbm, 530, rfl⟩
abbrev main_c_78 : Ref sig .tc := ⟨.hbm, 531, rfl⟩
abbrev main_call33_v0 : Ref sig .tc := ⟨.hbm, 532, rfl⟩
abbrev main_v361 : Ref sig .tc := ⟨.hbm, 533, rfl⟩
abbrev main_cst_79 : Ref sig .tc := ⟨.hbm, 534, rfl⟩
abbrev main_v362 : Ref sig .tc := ⟨.hbm, 535, rfl⟩
abbrev main_v363 : Ref sig .tc := ⟨.hbm, 536, rfl⟩
abbrev main_v364 : Ref sig .tc := ⟨.hbm, 537, rfl⟩
abbrev main_v365 : Ref sig .tc := ⟨.hbm, 538, rfl⟩
abbrev main_v366 : Ref sig .tc := ⟨.hbm, 539, rfl⟩
abbrev main_v367 : Ref sig .tc := ⟨.hbm, 540, rfl⟩
abbrev main_v368 : Ref sig .tc := ⟨.hbm, 541, rfl⟩
abbrev main_v369 : Ref sig .tc := ⟨.hbm, 542, rfl⟩
abbrev main_v370 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_v375 : Ref sig .tc := ⟨.hbm, 548, rfl⟩
abbrev main_v376 : Ref sig .tc := ⟨.hbm, 549, rfl⟩
abbrev main_v377 : Ref sig .tc := ⟨.hbm, 550, rfl⟩
abbrev main_v378 : Ref sig .tc := ⟨.hbm, 551, rfl⟩
abbrev main_v379 : Ref sig .tc := ⟨.hbm, 552, rfl⟩
abbrev main_v380 : Ref sig .tc := ⟨.hbm, 553, rfl⟩
abbrev main_v381 : Ref sig .tc := ⟨.hbm, 554, rfl⟩
abbrev main_v382 : Ref sig .tc := ⟨.hbm, 555, rfl⟩
abbrev main_v383 : Ref sig .tc := ⟨.hbm, 556, rfl⟩
abbrev main_v384 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_v388 : Ref sig .tc := ⟨.hbm, 561, rfl⟩
abbrev main_v389 : Ref sig .tc := ⟨.hbm, 562, rfl⟩
abbrev main_v390 : Ref sig .tc := ⟨.hbm, 563, rfl⟩
abbrev main_v391 : Ref sig .tc := ⟨.hbm, 564, rfl⟩
abbrev main_v392 : Ref sig .tc := ⟨.hbm, 565, rfl⟩
abbrev main_v393 : Ref sig .tc := ⟨.hbm, 566, rfl⟩
abbrev main_v394 : Ref sig .tc := ⟨.hbm, 567, rfl⟩
abbrev main_v395 : Ref sig .tc := ⟨.hbm, 568, rfl⟩
abbrev main_v396 : Ref sig .tc := ⟨.hbm, 569, rfl⟩
abbrev main_v397 : Ref sig .tc := ⟨.hbm, 570, rfl⟩
abbrev main_v398 : Ref sig .tc := ⟨.hbm, 571, rfl⟩
abbrev main_v399 : Ref sig .tc := ⟨.hbm, 572, rfl⟩
abbrev main_v400 : Ref sig .tc := ⟨.hbm, 573, rfl⟩
abbrev main_v401 : Ref sig .tc := ⟨.hbm, 574, rfl⟩
abbrev main_v402 : Ref sig .tc := ⟨.hbm, 575, rfl⟩
abbrev main_v403 : Ref sig .tc := ⟨.hbm, 576, rfl⟩
abbrev main_v404 : Ref sig .tc := ⟨.hbm, 577, rfl⟩
abbrev main_v405 : Ref sig .tc := ⟨.hbm, 578, rfl⟩
abbrev main_v406 : Ref sig .tc := ⟨.hbm, 579, rfl⟩
abbrev main_v407 : Ref sig .tc := ⟨.hbm, 580, rfl⟩
abbrev main_v408 : Ref sig .tc := ⟨.hbm, 581, rfl⟩
abbrev main_v409 : Ref sig .tc := ⟨.hbm, 582, rfl⟩
abbrev main_v410 : Ref sig .tc := ⟨.hbm, 583, rfl⟩
abbrev main_v411 : Ref sig .tc := ⟨.hbm, 584, rfl⟩
abbrev main_v412 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_v417 : Ref sig .tc := ⟨.hbm, 590, rfl⟩
abbrev main_v418 : Ref sig .tc := ⟨.hbm, 591, rfl⟩
abbrev main_v419 : Ref sig .tc := ⟨.hbm, 592, rfl⟩
abbrev main_c_80 : Ref sig .tc := ⟨.hbm, 593, rfl⟩
abbrev main_call34_v0 : Ref sig .tc := ⟨.hbm, 594, rfl⟩
abbrev main_v420 : Ref sig .tc := ⟨.hbm, 595, rfl⟩
abbrev main_cst_81 : Ref sig .tc := ⟨.hbm, 596, rfl⟩
abbrev main_v421 : Ref sig .tc := ⟨.hbm, 597, rfl⟩
abbrev main_v422 : Ref sig .tc := ⟨.hbm, 598, rfl⟩
abbrev main_v423 : Ref sig .tc := ⟨.hbm, 599, rfl⟩
abbrev main_v424 : Ref sig .tc := ⟨.hbm, 600, rfl⟩
abbrev main_v425 : Ref sig .tc := ⟨.hbm, 601, rfl⟩
abbrev main_v426 : Ref sig .tc := ⟨.hbm, 602, rfl⟩
abbrev main_v427 : Ref sig .tc := ⟨.hbm, 603, rfl⟩
abbrev main_v428 : Ref sig .tc := ⟨.hbm, 604, rfl⟩
abbrev main_v429 : Ref sig .tc := ⟨.hbm, 605, rfl⟩
abbrev main_v430 : Ref sig .tc := ⟨.hbm, 606, rfl⟩
abbrev main_v431 : Ref sig .tc := ⟨.hbm, 607, rfl⟩
abbrev main_v432 : Ref sig .tc := ⟨.hbm, 608, rfl⟩
abbrev main_v433 : Ref sig .tc := ⟨.hbm, 609, rfl⟩
abbrev main_v434 : Ref sig .tc := ⟨.hbm, 610, rfl⟩
abbrev main_v435 : Ref sig .tc := ⟨.hbm, 611, rfl⟩
abbrev main_v436 : Ref sig .tc := ⟨.hbm, 612, rfl⟩
abbrev main_v437 : Ref sig .tc := ⟨.hbm, 613, rfl⟩
abbrev main_v438 : Ref sig .tc := ⟨.hbm, 614, rfl⟩
abbrev main_v439 : Ref sig .tc := ⟨.hbm, 615, rfl⟩
abbrev main_v440 : Ref sig .tc := ⟨.hbm, 616, rfl⟩
abbrev main_v441 : Ref sig .tc := ⟨.hbm, 617, rfl⟩
abbrev main_v442 : Ref sig .tc := ⟨.hbm, 618, rfl⟩
abbrev main_v443 : Ref sig .tc := ⟨.hbm, 619, rfl⟩
abbrev main_v444 : Ref sig .tc := ⟨.hbm, 620, rfl⟩
abbrev main_v445 : Ref sig .tc := ⟨.hbm, 621, rfl⟩
abbrev main_v446 : Ref sig .tc := ⟨.hbm, 622, rfl⟩
abbrev main_v447 : Ref sig .tc := ⟨.hbm, 623, rfl⟩
abbrev main_v448 : Ref sig .tc := ⟨.hbm, 624, rfl⟩
abbrev main_v449 : Ref sig .tc := ⟨.hbm, 625, rfl⟩
abbrev main_v450 : Ref sig .tc := ⟨.hbm, 626, rfl⟩
abbrev main_v451 : Ref sig .tc := ⟨.hbm, 627, rfl⟩
abbrev main_v452 : Ref sig .tc := ⟨.hbm, 628, rfl⟩
abbrev main_v453 : Ref sig .tc := ⟨.hbm, 629, rfl⟩
abbrev main_v454 : Ref sig .tc := ⟨.hbm, 630, rfl⟩
abbrev main_v455 : Ref sig .tc := ⟨.hbm, 631, rfl⟩
abbrev main_v456 : Ref sig .tc := ⟨.hbm, 632, rfl⟩
abbrev main_v457 : Ref sig .tc := ⟨.hbm, 633, rfl⟩
abbrev main_v458 : Ref sig .tc := ⟨.hbm, 634, rfl⟩
abbrev main_v459 : Ref sig .tc := ⟨.hbm, 635, rfl⟩
abbrev main_v460 : Ref sig .tc := ⟨.hbm, 636, rfl⟩
abbrev main_v461 : Ref sig .tc := ⟨.hbm, 637, rfl⟩
abbrev main_v462 : Ref sig .tc := ⟨.hbm, 638, rfl⟩
abbrev main_v463 : Ref sig .tc := ⟨.hbm, 639, rfl⟩
abbrev main_v464 : Ref sig .tc := ⟨.hbm, 640, rfl⟩
abbrev main_v465 : Ref sig .tc := ⟨.hbm, 641, rfl⟩
abbrev main_v466 : Ref sig .tc := ⟨.hbm, 642, rfl⟩
abbrev main_v467 : Ref sig .tc := ⟨.hbm, 643, rfl⟩
abbrev main_v468 : Ref sig .tc := ⟨.hbm, 644, rfl⟩
abbrev main_v469 : Ref sig .tc := ⟨.hbm, 645, rfl⟩
abbrev main_v470 : Ref sig .tc := ⟨.hbm, 646, rfl⟩
abbrev main_v471 : Ref sig .tc := ⟨.hbm, 647, rfl⟩
abbrev main_v472 : Ref sig .tc := ⟨.hbm, 648, rfl⟩
abbrev main_v473 : Ref sig .tc := ⟨.hbm, 649, rfl⟩
abbrev main_v474 : Ref sig .tc := ⟨.hbm, 650, rfl⟩
abbrev main_v475 : Ref sig .tc := ⟨.hbm, 651, rfl⟩
abbrev main_v476 : Ref sig .tc := ⟨.hbm, 652, rfl⟩
abbrev main_v477 : Ref sig .tc := ⟨.hbm, 653, rfl⟩
abbrev main_v478 : Ref sig .tc := ⟨.hbm, 654, rfl⟩
abbrev main_cst_82 : Ref sig .tc := ⟨.hbm, 655, rfl⟩
abbrev main_v479 : Ref sig .tc := ⟨.hbm, 656, rfl⟩
abbrev main_v480 : Ref sig .tc := ⟨.hbm, 657, rfl⟩
abbrev main_v481 : Ref sig .tc := ⟨.hbm, 658, rfl⟩
abbrev main_v482 : Ref sig .tc := ⟨.hbm, 659, rfl⟩

abbrev nD : Nat := 1
abbrev τ : Topo := Topo.v7x

variable {F : FTy → Type} [FloatOps F]
-- ==== Proof.PreRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call's body: its branches, and one run of it per case -/

/- The three branch conditions in closed form: the first point of all, the first row block of an image, the
   last point of all. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 16 = 15)

/- Each window's staging buffer at a point, and that it is a whole buffer. -/
abbrev ms0_0 (t : Fin cfg0.N) : Memref sig .tc .vmem S1x96x56x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x56x224 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x9x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x8 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1728 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x96x224 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x240x384 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x8x224 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x1728 .f32 := win0_10.stage (cfg0.slots t 10)
abbrev hs0_10 (t : Fin cfg0.N) : (ms0_10 t).IsWhole := hstage0_10 ((cfg0.slots t 10).cast nbuf0_10)

set_option maxHeartbeats 1000000 in
/-- The body at the first point: sums, counts and index map are all set up. On whole staging buffers it runs to the end,
    leaves the inputs as they were, and leaves in each output buffer the listed pieces (the latest first). -/
def run0_A (c : Dev nD) (i : grid0.Coords) (arg2 : Memref sig .tc .vmem S1x96x56x224 .f32) (harg2 : arg2.IsWhole) (arg3 : Memref sig .tc .vmem S1x8x56x224 .f32) (harg3 : arg3.IsWhole) (arg4 : Memref sig .tc .vmem S4x9x256 .f32) (harg4 : arg4.IsWhole) (arg5 : Memref sig .tc .vmem S4x8 .i32) (harg5 : arg5.IsWhole) (arg6 : Memref sig .tc .vmem S8x256x256 .f32) (harg6 : arg6.IsWhole) (arg7 : Memref sig .tc .vmem S8x256 .f32) (harg7 : arg7.IsWhole) (arg8 : Memref sig .tc .vmem S256x1728 .f32) (harg8 : arg8.IsWhole) (arg9 : Memref sig .tc .vmem S2x96x224 .f32) (harg9 : arg9.IsWhole) (arg10 : Memref sig .tc .vmem S1x240x384 .i32) (harg10 : arg10.IsWhole) (arg11 : Memref sig .tc .vmem S4x8x224 .f32) (harg11 : arg11.IsWhole) (arg12 : Memref sig .tc .vmem S32x1728 .f32) (harg12 : arg12.IsWhole) (hc0 : cond0_0 i) (hc1 : cond0_1 i) (hc2 : ¬cond0_2 i)
    (x0 : Vec F S1x96x56x224 .f32) (x1 : Vec F S1x8x56x224 .f32) (x2 : Vec F S4x9x256 .f32) (x3 : Vec F S4x8 .i32) (x4 : Vec F S8x256x256 .f32) (x5 : Vec F S8x256 .f32) (x6 : Vec F S256x1728 .f32) :
    Σ' (L7 : List (View.Piece (Elt F) S2x96x224 .f32)), Σ' (L8 : List (View.Piece (Elt F) S1x240x384 .i32)), { L9 : List (View.Piece (Elt F) S4x8x224 .f32) //
      ∀ (xi10 : Vec F S32x1728 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xi10) -∗ K ⟨⟩))
          ⊢ wp frame (wpE (defs₀ (F := F)) Variants.none c none) E (cc0__pre_kernel i arg2 harg2 arg3 harg3 arg4 harg4 arg5 harg5 arg6 harg6 arg7 harg7 arg8 harg8 arg9 harg9 arg10 harg10 arg11 harg11 arg12 harg12) K } := by
  refine ⟨?_, ?_, ?_, fun xi10 E K => ?run⟩
  case run =>
    simp only [cc0__pre_kernel_eq_skeleton]; unfold cc0__pre_kernel_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8];
    · iexists _; iexact H8
    isplitl [H9]; · iexists _; iexact H9
    iexists _; isplitr; · ipureintro; exact harg12.read_unread _
    iexact H10

set_option maxHeartbeats 1000000 in
/-- The body at the first row block of a later image: the index map is filled afresh. On whole staging buffers it runs to the end,
    leaves the inputs as they were, and leaves in each output buffer the listed pieces (the latest first). -/
def run0_B (c : Dev nD) (i : grid0.Coords) (arg2 : Memref sig .tc .vmem S1x96x56x224 .f32) (harg2 : arg2.IsWhole) (arg3 : Memref sig .tc .vmem S1x8x56x224 .f32) (harg3 : arg3.IsWhole) (arg4 : Memref sig .tc .vmem S4x9x256 .f32) (harg4 : arg4.IsWhole) (arg5 : Memref sig .tc .vmem S4x8 .i32) (harg5 : arg5.IsWhole) (arg6 : Memref sig .tc .vmem S8x256x256 .f32) (harg6 : arg6.IsWhole) (arg7 : Memref sig .tc .vmem S8x256 .f32) (harg7 : arg7.IsWhole) (arg8 : Memref sig .tc .vmem S256x1728 .f32) (harg8 : arg8.IsWhole) (arg9 : Memref sig .tc .vmem S2x96x224 .f32) (harg9 : arg9.IsWhole) (arg10 : Memref sig .tc .vmem S1x240x384 .i32) (harg10 : arg10.IsWhole) (arg11 : Memref sig .tc .vmem S4x8x224 .f32) (harg11 : arg11.IsWhole) (arg12 : Memref sig .tc .vmem S32x1728 .f32) (harg12 : arg12.IsWhole) (hc0 : ¬cond0_0 i) (hc1 : cond0_1 i) (hc2 : ¬cond0_2 i)
    (x0 : Vec F S1x96x56x224 .f32) (x1 : Vec F S1x8x56x224 .f32) (x2 : Vec F S4x9x256 .f32) (x3 : Vec F S4x8 .i32) (x4 : Vec F S8x256x256 .f32) (x5 : Vec F S8x256 .f32) (x6 : Vec F S256x1728 .f32) (xo7 : Vec F S2x96x224 .f32) (xo9 : Vec F S4x8x224 .f32) :
    Σ' (L7 : List (View.Piece (Elt F) S2x96x224 .f32)), Σ' (L8 : List (View.Piece (Elt F) S1x240x384 .i32)), { L9 : List (View.Piece (Elt F) S4x8x224 .f32) //
      ∀ (xi10 : Vec F S32x1728 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ owns (c : Thread nD τ) arg11 fullShare xo9 ∗ owns (c : Thread nD τ) arg12 fullShare xi10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xi10) -∗ K ⟨⟩))
          ⊢ wp frame (wpE (defs₀ (F := F)) Variants.none c none) E (cc0__pre_kernel i arg2 harg2 arg3 harg3 arg4 harg4 arg5 harg5 arg6 harg6 arg7 harg7 arg8 harg8 arg9 harg9 arg10 harg10 arg11 harg11 arg12 harg12) K } := by
  refine ⟨?_, ?_, ?_, fun xi10 E K => ?run⟩
  case run =>
    simp only [cc0__pre_kernel_eq_skeleton]; unfold cc0__pre_kernel_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8];
    · iexists _; iexact H8
    isplitl [H9]; · iexists _; iexact H9
    iexists _; isplitr; · ipureintro; exact harg12.read_unread _
    iexact H10

set_option maxHeartbeats 1000000 in
/-- The body at a later row block of an image: everything is carried on. On whole staging buffers it runs to the end,
    leaves the inputs as they were, and leaves in each output buffer the listed pieces (the latest first). -/
def run0_C (c : Dev nD) (i : grid0.Coords) (arg2 : Memref sig .tc .vmem S1x96x56x224 .f32) (harg2 : arg2.IsWhole) (arg3 : Memref sig .tc .vmem S1x8x56x224 .f32) (harg3 : arg3.IsWhole) (arg4 : Memref sig .tc .vmem S4x9x256 .f32) (harg4 : arg4.IsWhole) (arg5 : Memref sig .tc .vmem S4x8 .i32) (harg5 : arg5.IsWhole) (arg6 : Memref sig .tc .vmem S8x256x256 .f32) (harg6 : arg6.IsWhole) (arg7 : Memref sig .tc .vmem S8x256 .f32) (harg7 : arg7.IsWhole) (arg8 : Memref sig .tc .vmem S256x1728 .f32) (harg8 : arg8.IsWhole) (arg9 : Memref sig .tc .vmem S2x96x224 .f32) (harg9 : arg9.IsWhole) (arg10 : Memref sig .tc .vmem S1x240x384 .i32) (harg10 : arg10.IsWhole) (arg11 : Memref sig .tc .vmem S4x8x224 .f32) (harg11 : arg11.IsWhole) (arg12 : Memref sig .tc .vmem S32x1728 .f32) (harg12 : arg12.IsWhole) (hc0 : ¬cond0_0 i) (hc1 : ¬cond0_1 i) (hc2 : ¬cond0_2 i)
    (x0 : Vec F S1x96x56x224 .f32) (x1 : Vec F S1x8x56x224 .f32) (x2 : Vec F S4x9x256 .f32) (x3 : Vec F S4x8 .i32) (x4 : Vec F S8x256x256 .f32) (x5 : Vec F S8x256 .f32) (x6 : Vec F S256x1728 .f32) (xo7 : Vec F S2x96x224 .f32) (xo8 : Vec F S1x240x384 .i32) (xo9 : Vec F S4x8x224 .f32) :
    Σ' (L7 : List (View.Piece (Elt F) S2x96x224 .f32)), Σ' (L8 : List (View.Piece (Elt F) S1x240x384 .i32)), { L9 : List (View.Piece (Elt F) S4x8x224 .f32) //
      ∀ (xi10 : Vec F S32x1728 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xo8 ∗ owns (c : Thread nD τ) arg11 fullShare xo9 ∗ owns (c : Thread nD τ) arg12 fullShare xi10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, ⌜f = harg10.unread xo8⌝ ∗ arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xi10) -∗ K ⟨⟩))
          ⊢ wp frame (wpE (defs₀ (F := F)) Variants.none c none) E (cc0__pre_kernel i arg2 harg2 arg3 harg3 arg4 harg4 arg5 harg5 arg6 harg6 arg7 harg7 arg8 harg8 arg9 harg9 arg10 harg10 arg11 harg11 arg12 harg12) K } := by
  refine ⟨?_, ?_, ?_, fun xi10 E K => ?run⟩
  case run =>
    simp only [cc0__pre_kernel_eq_skeleton]; unfold cc0__pre_kernel_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8];
    · iexists _; isplitr; · ipureintro; exact rfl
      iexact H8
    isplitl [H9]; · iexists _; iexact H9
    iexists _; isplitr; · ipureintro; exact harg12.read_unread _
    iexact H10

set_option maxHeartbeats 1000000 in
/-- The body at the last point, where the product with the weights is stored too. On whole staging buffers it runs to the end,
    leaves the inputs as they were, and leaves in each output buffer the listed pieces (the latest first). -/
def run0_D (c : Dev nD) (i : grid0.Coords) (arg2 : Memref sig .tc .vmem S1x96x56x224 .f32) (harg2 : arg2.IsWhole) (arg3 : Memref sig .tc .vmem S1x8x56x224 .f32) (harg3 : arg3.IsWhole) (arg4 : Memref sig .tc .vmem S4x9x256 .f32) (harg4 : arg4.IsWhole) (arg5 : Memref sig .tc .vmem S4x8 .i32) (harg5 : arg5.IsWhole) (arg6 : Memref sig .tc .vmem S8x256x256 .f32) (harg6 : arg6.IsWhole) (arg7 : Memref sig .tc .vmem S8x256 .f32) (harg7 : arg7.IsWhole) (arg8 : Memref sig .tc .vmem S256x1728 .f32) (harg8 : arg8.IsWhole) (arg9 : Memref sig .tc .vmem S2x96x224 .f32) (harg9 : arg9.IsWhole) (arg10 : Memref sig .tc .vmem S1x240x384 .i32) (harg10 : arg10.IsWhole) (arg11 : Memref sig .tc .vmem S4x8x224 .f32) (harg11 : arg11.IsWhole) (arg12 : Memref sig .tc .vmem S32x1728 .f32) (harg12 : arg12.IsWhole) (hc0 : ¬cond0_0 i) (hc1 : ¬cond0_1 i) (hc2 : cond0_2 i)
    (x0 : Vec F S1x96x56x224 .f32) (x1 : Vec F S1x8x56x224 .f32) (x2 : Vec F S4x9x256 .f32) (x3 : Vec F S4x8 .i32) (x4 : Vec F S8x256x256 .f32) (x5 : Vec F S8x256 .f32) (x6 : Vec F S256x1728 .f32) (xo7 : Vec F S2x96x224 .f32) (xo8 : Vec F S1x240x384 .i32) (xo9 : Vec F S4x8x224 .f32) :
    Σ' (L7 : List (View.Piece (Elt F) S2x96x224 .f32)), Σ' (L8 : List (View.Piece (Elt F) S1x240x384 .i32)), Σ' (L9 : List (View.Piece (Elt F) S4x8x224 .f32)), { L10 : List (View.Piece (Elt F) S32x1728 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xo8 ∗ owns (c : Thread nD τ) arg11 fullShare xo9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, ⌜f = harg10.unread xo8⌝ ∗ arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__pre_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__pre_kernel_eq_skeleton]; unfold cc0__pre_kernel_skel
    simp only [k0_part6_eq_skeleton, k0_part7_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8];
    · iexists _; isplitr; · ipureintro; exact rfl
      iexact H8
    isplitl [H9]; · iexists _; iexact H9
    iexists _; iexact H10

end Cert.KernelIdeal.Hand

end
-- ==== Proof.Pre.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.PreRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call over its sixteen grid points, from any contents `V` of the buffers -/

/-- Window `w`'s block at point `t`, as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the four output buffers hold. -/
abbrev Outs (F : FTy → Type) : Type := Vec F S2x96x224 .f32 × Vec F S1x240x384 .i32 × Vec F S4x8x224 .f32 × Vec F S32x1728 .f32

theorem lt16 (t : Fin cfg0.N) : t.val < 16 := lt_of_lt_of_eq t.isLt (show cfg0.N = 16 from N_0)

/-- The run of case A at point `t`. -/
def rA (c : Dev nD) (t : Fin cfg0.N) (h : t.val = 0) :=
  run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    ((hcond0_0 t).mpr (by have := lt16 t; omega)) ((hcond0_1 t).mpr (by have := lt16 t; omega)) (fun hc => by have := (hcond0_2 t).mp hc; have := lt16 t; omega)
    (iblk0 V c 0 t) (iblk0 V c 1 t) (iblk0 V c 2 t) (iblk0 V c 3 t) (iblk0 V c 4 t) (iblk0 V c 5 t) (iblk0 V c 6 t)

theorem covA7 (c : Dev nD) (t : Fin cfg0.N) (h : t.val = 0) (y : S2x96x224.Idx) :
    ∃ pc ∈ (rA V c t h).1, y ∈ pc.1.set :=
  View.cover_of_tiledBy (rA V c t h).1 ![1, 96, 224] (by sl_kernel_rfl) y

theorem covA8 (c : Dev nD) (t : Fin cfg0.N) (h : t.val = 0) (y : S1x240x384.Idx) :
    ∃ pc ∈ (rA V c t h).2.1, y ∈ pc.1.set := by
  unfold rA
  exact View.cover_of_wholeMem _ (by sl_whole_mem) y

theorem covA9 (c : Dev nD) (t : Fin cfg0.N) (h : t.val = 0) (y : S4x8x224.Idx) :
    ∃ pc ∈ (rA V c t h).2.2.1, y ∈ pc.1.set :=
  View.cover_of_tiledL (rA V c t h).2.2.1 S4x8x224.size (by sl_kernel_rfl) y

/-- What case A leaves in the output buffers. -/
def oA (c : Dev nD) (t : Fin cfg0.N) (h : t.val = 0) : Outs F :=
  ((ms0_7 t).view.read (Elt F) ((ms0_7 t).view.writes (Elt F) (ms0_7 t).view.junk (rA V c t h).1),
   (ms0_8 t).view.read (Elt F) ((ms0_8 t).view.writes (Elt F) (ms0_8 t).view.junk (rA V c t h).2.1),
   (ms0_9 t).view.read (Elt F) ((ms0_9 t).view.writes (Elt F) (ms0_9 t).view.junk (rA V c t h).2.2.1),
   (ms0_10 t).view.read (Elt F) (ms0_10 t).view.junk)

/-- The run of case B at point `t`. -/
def rB (c : Dev nD) (t : Fin cfg0.N) (h : t.val % 4 = 0 ∧ t.val ≠ 0) (xo7 : Vec F S2x96x224 .f32) (xo9 : Vec F S4x8x224 .f32) :=
  run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (fun hc => by have := (hcond0_0 t).mp hc; have := lt16 t; omega) ((hcond0_1 t).mpr (by have := lt16 t; omega)) (fun hc => by have := (hcond0_2 t).mp hc; have := lt16 t; omega)
    (iblk0 V c 0 t) (iblk0 V c 1 t) (iblk0 V c 2 t) (iblk0 V c 3 t) (iblk0 V c 4 t) (iblk0 V c 5 t) (iblk0 V c 6 t) xo7 xo9

theorem covB7 (c : Dev nD) (t : Fin cfg0.N) (h : t.val % 4 = 0 ∧ t.val ≠ 0) (xo7 : Vec F S2x96x224 .f32) (xo9 : Vec F S4x8x224 .f32) (y : S2x96x224.Idx) :
    ∃ pc ∈ (rB V c t h xo7 xo9).1, y ∈ pc.1.set :=
  View.cover_of_tiledL (rB V c t h xo7 xo9).1 S1x96x224.size (by sl_kernel_rfl) y

theorem covB8 (c : Dev nD) (t : Fin cfg0.N) (h : t.val % 4 = 0 ∧ t.val ≠ 0) (xo7 : Vec F S2x96x224 .f32) (xo9 : Vec F S4x8x224 .f32) (y : S1x240x384.Idx) :
    ∃ pc ∈ (rB V c t h xo7 xo9).2.1, y ∈ pc.1.set := by
  unfold rB
  exact View.cover_of_wholeMem _ (by sl_whole_mem) y

theorem covB9 (c : Dev nD) (t : Fin cfg0.N) (h : t.val % 4 = 0 ∧ t.val ≠ 0) (xo7 : Vec F S2x96x224 .f32) (xo9 : Vec F S4x8x224 .f32) (y : S4x8x224.Idx) :
    ∃ pc ∈ (rB V c t h xo7 xo9).2.2.1, y ∈ pc.1.set :=
  View.cover_of_tiledL (rB V c t h xo7 xo9).2.2.1 S4x8x224.size (by sl_kernel_rfl) y

/-- What case B leaves in the output buffers. -/
def oB (c : Dev nD) (t : Fin cfg0.N) (h : t.val % 4 = 0 ∧ t.val ≠ 0) (xo7 : Vec F S2x96x224 .f32) (xo9 : Vec F S4x8x224 .f32) : Outs F :=
  ((ms0_7 t).view.read (Elt F) ((ms0_7 t).view.writes (Elt F) (ms0_7 t).view.junk (rB V c t h xo7 xo9).1),
   (ms0_8 t).view.read (Elt F) ((ms0_8 t).view.writes (Elt F) (ms0_8 t).view.junk (rB V c t h xo7 xo9).2.1),
   (ms0_9 t).view.read (Elt F) ((ms0_9 t).view.writes (Elt F) (ms0_9 t).view.junk (rB V c t h xo7 xo9).2.2.1),
   (ms0_10 t).view.read (Elt F) (ms0_10 t).view.junk)

/-- The run of case C at point `t`. -/
def rC (c : Dev nD) (t : Fin cfg0.N) (h : t.val % 4 ≠ 0 ∧ t.val ≠ 15) (xo7 : Vec F S2x96x224 .f32) (xo8 : Vec F S1x240x384 .i32) (xo9 : Vec F S4x8x224 .f32) :=
  run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (fun hc => by have := (hcond0_0 t).mp hc; have := lt16 t; omega) (fun hc => by have := (hcond0_1 t).mp hc; have := lt16 t; omega) (fun hc => by have := (hcond0_2 t).mp hc; have := lt16 t; omega)
    (iblk0 V c 0 t) (iblk0 V c 1 t) (iblk0 V c 2 t) (iblk0 V c 3 t) (iblk0 V c 4 t) (iblk0 V c 5 t) (iblk0 V c 6 t) xo7 xo8 xo9

theorem covC7 (c : Dev nD) (t : Fin cfg0.N) (h : t.val % 4 ≠ 0 ∧ t.val ≠ 15) (xo7 : Vec F S2x96x224 .f32) (xo8 : Vec F S1x240x384 .i32) (xo9 : Vec F S4x8x224 .f32) (y : S2x96x224.Idx) :
    ∃ pc ∈ (rC V c t h xo7 xo8 xo9).1, y ∈ pc.1.set :=
  View.cover_of_tiledL (rC V c t h xo7 xo8 xo9).1 S1x96x224.size (by sl_kernel_rfl) y

theorem covC9 (c : Dev nD) (t : Fin cfg0.N) (h : t.val % 4 ≠ 0 ∧ t.val ≠ 15) (xo7 : Vec F S2x96x224 .f32) (xo8 : Vec F S1x240x384 .i32) (xo9 : Vec F S4x8x224 .f32) (y : S4x8x224.Idx) :
    ∃ pc ∈ (rC V c t h xo7 xo8 xo9).2.2.1, y ∈ pc.1.set :=
  View.cover_of_tiledL (rC V c t h xo7 xo8 xo9).2.2.1 S4x8x224.size (by sl_kernel_rfl) y

/-- What case C leaves in the output buffers. -/
def oC (c : Dev nD) (t : Fin cfg0.N) (h : t.val % 4 ≠ 0 ∧ t.val ≠ 15) (xo7 : Vec F S2x96x224 .f32) (xo8 : Vec F S1x240x384 .i32) (xo9 : Vec F S4x8x224 .f32) : Outs F :=
  ((ms0_7 t).view.read (Elt F) ((ms0_7 t).view.writes (Elt F) (ms0_7 t).view.junk (rC V c t h xo7 xo8 xo9).1),
   (ms0_8 t).view.read (Elt F) ((ms0_8 t).view.writes (Elt F) ((hs0_8 t).unread xo8) (rC V c t h xo7 xo8 xo9).2.1),
   (ms0_9 t).view.read (Elt F) ((ms0_9 t).view.writes (Elt F) (ms0_9 t).view.junk (rC V c t h xo7 xo8 xo9).2.2.1),
   (ms0_10 t).view.read (Elt F) (ms0_10 t).view.junk)

/-- The run of case D at point `t`. -/
def rD (c : Dev nD) (t : Fin cfg0.N) (h : t.val = 15) (xo7 : Vec F S2x96x224 .f32) (xo8 : Vec F S1x240x384 .i32) (xo9 : Vec F S4x8x224 .f32) :=
  run0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (fun hc => by have := (hcond0_0 t).mp hc; have := lt16 t; omega) (fun hc => by have := (hcond0_1 t).mp hc; have := lt16 t; omega) ((hcond0_2 t).mpr (by have := lt16 t; omega))
    (iblk0 V c 0 t) (iblk0 V c 1 t) (iblk0 V c 2 t) (iblk0 V c 3 t) (iblk0 V c 4 t) (iblk0 V c 5 t) (iblk0 V c 6 t) xo7 xo8 xo9

theorem covD7 (c : Dev nD) (t : Fin cfg0.N) (h : t.val = 15) (xo7 : Vec F S2x96x224 .f32) (xo8 : Vec F S1x240x384 .i32) (xo9 : Vec F S4x8x224 .f32) (y : S2x96x224.Idx) :
    ∃ pc ∈ (rD V c t h xo7 xo8 xo9).1, y ∈ pc.1.set :=
  View.cover_of_tiledL (rD V c t h xo7 xo8 xo9).1 S1x96x224.size (by sl_kernel_rfl) y

theorem covD9 (c : Dev nD) (t : Fin cfg0.N) (h : t.val = 15) (xo7 : Vec F S2x96x224 .f32) (xo8 : Vec F S1x240x384 .i32) (xo9 : Vec F S4x8x224 .f32) (y : S4x8x224.Idx) :
    ∃ pc ∈ (rD V c t h xo7 xo8 xo9).2.2.1, y ∈ pc.1.set :=
  View.cover_of_tiledL (rD V c t h xo7 xo8 xo9).2.2.1 S4x8x224.size (by sl_kernel_rfl) y

theorem covD10 (c : Dev nD) (t : Fin cfg0.N) (h : t.val = 15) (xo7 : Vec F S2x96x224 .f32) (xo8 : Vec F S1x240x384 .i32) (xo9 : Vec F S4x8x224 .f32) (y : S32x1728.Idx) :
    ∃ pc ∈ (rD V c t h xo7 xo8 xo9).2.2.2.1, y ∈ pc.1.set :=
  View.cover_of_tiledL (rD V c t h xo7 xo8 xo9).2.2.2.1 S32x1728.size (by sl_kernel_rfl) y

/-- What case D leaves in the output buffers. -/
def oD (c : Dev nD) (t : Fin cfg0.N) (h : t.val = 15) (xo7 : Vec F S2x96x224 .f32) (xo8 : Vec F S1x240x384 .i32) (xo9 : Vec F S4x8x224 .f32) : Outs F :=
  ((ms0_7 t).view.read (Elt F) ((ms0_7 t).view.writes (Elt F) (ms0_7 t).view.junk (rD V c t h xo7 xo8 xo9).1),
   (ms0_8 t).view.read (Elt F) ((ms0_8 t).view.writes (Elt F) ((hs0_8 t).unread xo8) (rD V c t h xo7 xo8 xo9).2.1),
   (ms0_9 t).view.read (Elt F) ((ms0_9 t).view.writes (Elt F) (ms0_9 t).view.junk (rD V c t h xo7 xo8 xo9).2.2.1),
   (ms0_10 t).view.read (Elt F) ((ms0_10 t).view.writes (Elt F) (ms0_10 t).view.junk (rD V c t h xo7 xo8 xo9).2.2.2.1))

/-- What the output buffers hold after point `n`: the case's contents, over what the point before left. -/
def outs0 (c : Dev nD) : (n : ℕ) → n < cfg0.N → Outs F
  | 0, hn => oA V c ⟨0, hn⟩ rfl
  | n + 1, hn =>
    if hD : n + 1 = 15 then
      oD V c ⟨n + 1, hn⟩ hD (outs0 c n (Nat.lt_of_succ_lt hn)).1 (outs0 c n (Nat.lt_of_succ_lt hn)).2.1 (outs0 c n (Nat.lt_of_succ_lt hn)).2.2.1
    else if hB : (n + 1) % 4 = 0 then
      oB V c ⟨n + 1, hn⟩ ⟨hB, Nat.succ_ne_zero n⟩ (outs0 c n (Nat.lt_of_succ_lt hn)).1 (outs0 c n (Nat.lt_of_succ_lt hn)).2.2.1
    else
      oC V c ⟨n + 1, hn⟩ ⟨hB, hD⟩ (outs0 c n (Nat.lt_of_succ_lt hn)).1 (outs0 c n (Nat.lt_of_succ_lt hn)).2.1 (outs0 c n (Nat.lt_of_succ_lt hn)).2.2.1

/-- What the output buffers hold before a point past the first. -/
abbrev prev0 (c : Dev nD) (t : Fin cfg0.N) : Outs F := outs0 V c (t.val - 1) (Nat.lt_of_le_of_lt (Nat.sub_le _ _) t.isLt)

theorem outs0_A (c : Dev nD) (t : Fin cfg0.N) (h : t.val = 0) : outs0 V c t.val t.isLt = oA V c t h := by
  obtain ⟨n, hn⟩ := t
  cases n with
  | zero => rfl
  | succ n => exact absurd h (Nat.succ_ne_zero n)

theorem outs0_B (c : Dev nD) (t : Fin cfg0.N) (h : t.val % 4 = 0 ∧ t.val ≠ 0) :
    outs0 V c t.val t.isLt = oB V c t h (prev0 V c t).1 (prev0 V c t).2.2.1 := by
  obtain ⟨n, hn⟩ := t
  cases n with
  | zero => exact absurd rfl h.2
  | succ n =>
    have h1 : ¬(n + 1 = 15) := by have := h.1; dsimp only at this; omega
    exact (dif_neg h1).trans ((dif_pos h.1).trans rfl)

theorem outs0_C (c : Dev nD) (t : Fin cfg0.N) (h : t.val % 4 ≠ 0 ∧ t.val ≠ 15) :
    outs0 V c t.val t.isLt = oC V c t h (prev0 V c t).1 (prev0 V c t).2.1 (prev0 V c t).2.2.1 := by
  obtain ⟨n, hn⟩ := t
  cases n with
  | zero => exact absurd rfl h.1
  | succ n => exact (dif_neg h.2).trans ((dif_neg h.1).trans rfl)

theorem outs0_D (c : Dev nD) (t : Fin cfg0.N) (h : t.val = 15) :
    outs0 V c t.val t.isLt = oD V c t h (prev0 V c t).1 (prev0 V c t).2.1 (prev0 V c t).2.2.1 := by
  obtain ⟨n, hn⟩ := t
  cases n with
  | zero => exact absurd h (by dsimp only; omega)
  | succ n => exact (dif_pos h).trans rfl

/-- The first call's proof data: arrays as found; each input buffer at its block, the output buffers at `outs0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outs0 V c t.val t.isLt).1
    | ⟨8, _⟩ => (outs0 V c t.val t.isLt).2.1
    | ⟨9, _⟩ => (outs0 V c t.val t.isLt).2.2.1
    | ⟨10, _⟩ => (outs0 V c t.val t.isLt).2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outs0 V c t.val t.isLt).1 := by dsimp only [dat0]
theorem after0_8 (c : Dev nD) (t : Fin cfg0.N) : (dat0 V c).after 8 t = (outs0 V c t.val t.isLt).2.1 := by dsimp only [dat0]
theorem after0_9 (c : Dev nD) (t : Fin cfg0.N) : (dat0 V c).after 9 t = (outs0 V c t.val t.isLt).2.2.1 := by dsimp only [dat0]
theorem after0_10 (c : Dev nD) (t : Fin cfg0.N) : (dat0 V c).after 10 t = (outs0 V c t.val t.isLt).2.2.2 := by dsimp only [dat0]

/- Each input's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/- A carried output's buffer holds what the point before left. -/
theorem before0_7 (c : Dev nD) (t : Fin cfg0.N) (h : t.val ≠ 0) (d) : (dat0 V c).before 7 t d = (prev0 V c t).1 := by
  have hN := lt16 t
  rw [Dat.before_out_kept _ 7 rfl t (by omega) (Bool.eq_false_iff.mpr fun h => by have := (flush0_7 _).mp h; dsimp only at this; omega)
    (fun _ => rfl) (fun _ _ => rfl)]
  dsimp only [dat0]
theorem before0_8 (c : Dev nD) (t : Fin cfg0.N) (h : t.val % 4 ≠ 0) (d) : (dat0 V c).before 8 t d = (prev0 V c t).2.1 := by
  have hN := lt16 t
  rw [Dat.before_out_kept _ 8 rfl t (by omega) (Bool.eq_false_iff.mpr fun h => by have := (flush0_8 _).mp h; dsimp only at this; omega)
    (fun _ => rfl) (fun _ _ => rfl)]
  dsimp only [dat0]
theorem before0_9 (c : Dev nD) (t : Fin cfg0.N) (h : t.val ≠ 0) (d) : (dat0 V c).before 9 t d = (prev0 V c t).2.2.1 := by
  have hN := lt16 t
  rw [Dat.before_out_kept _ 9 rfl t (by omega) (Bool.eq_false_iff.mpr fun h => by have := (flush0_9 _).mp h; dsimp only at this; omega)
    (fun _ => rfl) (fun _ _ => rfl)]
  dsimp only [dat0]

/- What the body must leave, window by window. -/
theorem leaves0_0 (c : Dev nD) (t : Fin cfg0.N) :
    (dat0 V c).leavesExact 0 t = owns (c : Thread nD τ) (ms0_0 t) fullShare (iblk0 V c 0 t) := by
  rw [← after0_0]
theorem leaves0_1 (c : Dev nD) (t : Fin cfg0.N) :
    (dat0 V c).leavesExact 1 t = owns (c : Thread nD τ) (ms0_1 t) fullShare (iblk0 V c 1 t) := by
  rw [← after0_1]
theorem leaves0_2 (c : Dev nD) (t : Fin cfg0.N) :
    (dat0 V c).leavesExact 2 t = owns (c : Thread nD τ) (ms0_2 t) fullShare (iblk0 V c 2 t) := by
  rw [← after0_2]
theorem leaves0_3 (c : Dev nD) (t : Fin cfg0.N) :
    (dat0 V c).leavesExact 3 t = owns (c : Thread nD τ) (ms0_3 t) fullShare (iblk0 V c 3 t) := by
  rw [← after0_3]
theorem leaves0_4 (c : Dev nD) (t : Fin cfg0.N) :
    (dat0 V c).leavesExact 4 t = owns (c : Thread nD τ) (ms0_4 t) fullShare (iblk0 V c 4 t) := by
  rw [← after0_4]
theorem leaves0_5 (c : Dev nD) (t : Fin cfg0.N) :
    (dat0 V c).leavesExact 5 t = owns (c : Thread nD τ) (ms0_5 t) fullShare (iblk0 V c 5 t) := by
  rw [← after0_5]
theorem leaves0_6 (c : Dev nD) (t : Fin cfg0.N) :
    (dat0 V c).leavesExact 6 t = owns (c : Thread nD τ) (ms0_6 t) fullShare (iblk0 V c 6 t) := by
  rw [← after0_6]
theorem leaves0_7 (c : Dev nD) (t : Fin cfg0.N) :
    (dat0 V c).leavesExact 7 t = owns (c : Thread nD τ) (ms0_7 t) fullShare ((outs0 V c t.val t.isLt).1) := by
  rw [← after0_7]
theorem leaves0_8 (c : Dev nD) (t : Fin cfg0.N) :
    (dat0 V c).leavesExact 8 t = owns (c : Thread nD τ) (ms0_8 t) fullShare ((outs0 V c t.val t.isLt).2.1) := by
  rw [← after0_8]
theorem leaves0_9 (c : Dev nD) (t : Fin cfg0.N) :
    (dat0 V c).leavesExact 9 t = owns (c : Thread nD τ) (ms0_9 t) fullShare ((outs0 V c t.val t.isLt).2.2.1) := by
  rw [← after0_9]
theorem idle0_10 : ∀ t : Fin cfg0.N, t.val ≠ 15 → cfg0.idle 10 (grid0.coords t) = true :=
  (by decide +kernel : ∀ t : Fin grid0.N, t.val ≠ 15 → cfg0.idle 10 (grid0.coords t) = true)
theorem noFlush0_10 : ∀ t : Fin cfg0.N, t.val ≠ 15 → (cfg0.win 10).flush t = false :=
  (by decide +kernel : ∀ t : Fin grid0.N, t.val ≠ 15 → (cfg0.win 10).flush t = false)
theorem live0_10 : ∀ t : Fin cfg0.N, t.val = 15 → cfg0.idle 10 (grid0.coords t) = false :=
  (by decide +kernel : ∀ t : Fin grid0.N, t.val = 15 → cfg0.idle 10 (grid0.coords t) = false)
theorem leaves0_10 (c : Dev nD) (t : Fin cfg0.N) (h : t.val = 15) :
    (dat0 V c).leavesExact 10 t = owns (c : Thread nD τ) (ms0_10 t) fullShare (outs0 V c t.val t.isLt).2.2.2 := by
  rw [← after0_10]; unfold Dat.leavesExact; rw [live0_10 t h]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 1000000 in
theorem sound0_A (c : Dev nD) (t : Fin cfg0.N) (h : t.val = 0) :
    bodyPre0 V c t ⊢ wp frame (wpE (defs₀ (F := F)) Variants.none c none) Set.univ (bodyAt0 t) (fun _ => bodyPost0 V c t) := by
  unfold bodyPre0 bodyPost0 bodyAt0
  have hN := lt16 t
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl]
  simp only [leaves0_0, leaves0_1, leaves0_2, leaves0_3, leaves0_4, leaves0_5, leaves0_6, leaves0_7, leaves0_8, leaves0_9]
  rw [Dat.leavesExact_idle (dat0 V c) 10 t (idle0_10 t (by omega)) (noFlush0_10 t (by omega))]
  rw [outs0_A V c t h]
  unfold oA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rA V c t h).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  iintro ⟨H0, H1, H2, H3, H4, H5, H6, ⟨%e7, H7⟩, ⟨%e8, H8⟩, ⟨%e9, H9⟩, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covA7 V c t h)
  isplitl [H8]
  · unfold owns; iexists _; isplitr
    swap; · iexact H8
    ipureintro; exact View.read_writes_of_cover _ _ _ _ _ (covA8 V c t h)
  isplitl [H9]
  · unfold owns; iexists _; isplitr
    swap; · iexact H9
    ipureintro; exact View.read_writes_of_cover _ _ _ _ _ (covA9 V c t h)
  iexists _; iexact H10

set_option maxHeartbeats 1000000 in
theorem sound0_B (c : Dev nD) (t : Fin cfg0.N) (h : t.val % 4 = 0 ∧ t.val ≠ 0) :
    bodyPre0 V c t ⊢ wp frame (wpE (defs₀ (F := F)) Variants.none c none) Set.univ (bodyAt0 t) (fun _ => bodyPost0 V c t) := by
  unfold bodyPre0 bodyPost0 bodyAt0
  have hN := lt16 t
  simp only [before0_0, before0_1, before0_2, before0_3, before0_4, before0_5, before0_6, before0_7 V c t (by omega), before0_9 V c t (by omega)]
  rw [show (dat0 V c).Φ t.succ = (dat0 V c).Φ t.castSucc from rfl,
    show (dat0 V c).owesAt () t.succ = (dat0 V c).owesAt () t.castSucc from rfl]
  simp only [leaves0_0, leaves0_1, leaves0_2, leaves0_3, leaves0_4, leaves0_5, leaves0_6, leaves0_7, leaves0_8, leaves0_9]
  rw [Dat.leavesExact_idle (dat0 V c) 10 t (idle0_10 t (by omega)) (noFlush0_10 t (by omega))]
  rw [outs0_B V c t h]
  unfold oB; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rB V c t h (prev0 V c t).1 (prev0 V c t).2.2.1).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iintro ⟨H0, H1, H2, H3, H4, H5, H6, ⟨%e7, H7⟩, ⟨%e8, H8⟩, ⟨%e9, H9⟩, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covB7 V c t h (prev0 V c t).1 (prev0 V c t).2.2.1)
  isplitl [H8]
  · unfold owns; iexists _; isplitr
    swap; · iexact H8
    ipureintro; exact View.read_writes_of_cover _ _ _ _ _ (covB8 V c t h (prev0 V c t).1 (prev0 V c t).2.2.1)
  isplitl [H9]
  · unfold owns; iexists _; isplitr
    swap; · iexact H9
    ipureintro; exact View.read_writes_of_cover _ _ _ _ _ (covB9 V c t h (prev0 V c t).1 (prev0 V c t).2.2.1)
  iexists _; iexact H10

set_option maxHeartbeats 1000000 in
theorem sound0_C (c : Dev nD) (t : Fin cfg0.N) (h : t.val % 4 ≠ 0 ∧ t.val ≠ 15) :
    bodyPre0 V c t ⊢ wp frame (wpE (defs₀ (F := F)) Variants.none c none) Set.univ (bodyAt0 t) (fun _ => bodyPost0 V c t) := by
  unfold bodyPre0 bodyPost0 bodyAt0
  have hN := lt16 t
  simp only [before0_0, before0_1, before0_2, before0_3, before0_4, before0_5, before0_6, before0_7 V c t (by omega), before0_8 V c t (by omega), before0_9 V c t (by omega)]
  rw [show (dat0 V c).Φ t.succ = (dat0 V c).Φ t.castSucc from rfl,
    show (dat0 V c).owesAt () t.succ = (dat0 V c).owesAt () t.castSucc from rfl]
  simp only [leaves0_0, leaves0_1, leaves0_2, leaves0_3, leaves0_4, leaves0_5, leaves0_6, leaves0_7, leaves0_8, leaves0_9]
  rw [Dat.leavesExact_idle (dat0 V c) 10 t (idle0_10 t (by omega)) (noFlush0_10 t (by omega))]
  rw [outs0_C V c t h]
  unfold oC; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rC V c t h (prev0 V c t).1 (prev0 V c t).2.1 (prev0 V c t).2.2.1).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%e7, H7⟩, ⟨%e8, %he8, H8⟩, ⟨%e9, H9⟩, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covC7 V c t h (prev0 V c t).1 (prev0 V c t).2.1 (prev0 V c t).2.2.1)
  isplitl [H8]
  · unfold owns; iexists _; isplitr
    swap; · iexact H8
    ipureintro; subst he8; rfl
  isplitl [H9]
  · unfold owns; iexists _; isplitr
    swap; · iexact H9
    ipureintro; exact View.read_writes_of_cover _ _ _ _ _ (covC9 V c t h (prev0 V c t).1 (prev0 V c t).2.1 (prev0 V c t).2.2.1)
  iexists _; iexact H10

set_option maxHeartbeats 1000000 in
theorem sound0_D (c : Dev nD) (t : Fin cfg0.N) (h : t.val = 15) :
    bodyPre0 V c t ⊢ wp frame (wpE (defs₀ (F := F)) Variants.none c none) Set.univ (bodyAt0 t) (fun _ => bodyPost0 V c t) := by
  unfold bodyPre0 bodyPost0 bodyAt0
  have hN := lt16 t
  simp only [before0_0, before0_1, before0_2, before0_3, before0_4, before0_5, before0_6, before0_7 V c t (by omega), before0_8 V c t (by omega), before0_9 V c t (by omega)]
  rw [show (dat0 V c).Φ t.succ = (dat0 V c).Φ t.castSucc from rfl,
    show (dat0 V c).owesAt () t.succ = (dat0 V c).owesAt () t.castSucc from rfl]
  simp only [leaves0_0, leaves0_1, leaves0_2, leaves0_3, leaves0_4, leaves0_5, leaves0_6, leaves0_7, leaves0_8, leaves0_9]
  rw [leaves0_10 V c t h]
  rw [outs0_D V c t h]
  unfold oD; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rD V c t h (prev0 V c t).1 (prev0 V c t).2.1 (prev0 V c t).2.2.1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, ⟨%e7, H7⟩, ⟨%e8, %he8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covD7 V c t h (prev0 V c t).1 (prev0 V c t).2.1 (prev0 V c t).2.2.1)
  isplitl [H8]
  · unfold owns; iexists _; isplitr
    swap; · iexact H8
    ipureintro; subst he8; rfl
  isplitl [H9]
  · unfold owns; iexists _; isplitr
    swap; · iexact H9
    ipureintro; exact View.read_writes_of_cover _ _ _ _ _ (covD9 V c t h (prev0 V c t).1 (prev0 V c t).2.1 (prev0 V c t).2.2.1)
  unfold owns; iexists _; isplitr
  swap; · iexact H10
  ipureintro; exact View.read_writes_of_cover _ _ _ _ _ (covD10 V c t h (prev0 V c t).1 (prev0 V c t).2.1 (prev0 V c t).2.2.1)

theorem sound_body0 (c : Dev nD) (t : Fin cfg0.N) :
    bodyPre0 V c t ⊢ wp frame (wpE (defs₀ (F := F)) Variants.none c none) Set.univ (bodyAt0 t) (fun _ => bodyPost0 V c t) := by
  by_cases hA : t.val = 0
  · exact sound0_A V c t hA
  by_cases hD : t.val = 15
  · exact sound0_D V c t hD
  by_cases hB : t.val % 4 = 0
  · exact sound0_B V c t ⟨hB, hA⟩
  · exact sound0_C V c t ⟨hB, hD⟩

theorem defs₀_row0 (t : Fin cfg0.N) :
    defs₀ (F := F) .tc cfg0.body (cfg0.bodyArgs t (cfg0.slots t)) = bodyAt0 t := by
  unfold defs₀; rw [Defs.onTc_tc]

/-- The first call's body keeps its pipeline's promise at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Main.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: one run of its body, and its sixteen grid points -/

/- Each window's staging buffer at a point, and that it is a whole buffer. -/
abbrev ms1_0 (t : Fin cfg1.N) : Memref sig .tc .vmem S1x96x56x224 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x240x384 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x384x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x96x224 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S96x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S96x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S96x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S96x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x96x56x224 .f32 := win1_8.stage (cfg1.slots t 8)
abbrev hs1_8 (t : Fin cfg1.N) : (ms1_8 t).IsWhole := hstage1_8 ((cfg1.slots t 8).cast nbuf1_8)

set_option maxHeartbeats 1336000 in
/-- The body. On whole staging buffers it runs to the end, leaves the inputs as they were, and leaves in the
    output buffer the listed pieces (the latest first). -/
def run1 (c : Dev nD) (i : grid1.Coords) (arg2 : Memref sig .tc .vmem S1x96x56x224 .f32) (harg2 : arg2.IsWhole) (arg3 : Memref sig .tc .vmem S1x240x384 .i32) (harg3 : arg3.IsWhole) (arg4 : Memref sig .tc .vmem S1x384x128 .f32) (harg4 : arg4.IsWhole) (arg5 : Memref sig .tc .vmem S2x96x224 .f32) (harg5 : arg5.IsWhole) (arg6 : Memref sig .tc .vmem S96x1 .f32) (harg6 : arg6.IsWhole) (arg7 : Memref sig .tc .vmem S96x1 .f32) (harg7 : arg7.IsWhole) (arg8 : Memref sig .tc .vmem S96x1 .f32) (harg8 : arg8.IsWhole) (arg9 : Memref sig .tc .vmem S96x1 .f32) (harg9 : arg9.IsWhole) (arg10 : Memref sig .tc .vmem S1x96x56x224 .f32) (harg10 : arg10.IsWhole)
    (x0 : Vec F S1x96x56x224 .f32) (x1 : Vec F S1x240x384 .i32) (x2 : Vec F S1x384x128 .f32) (x3 : Vec F S2x96x224 .f32) (x4 : Vec F S96x1 .f32) (x5 : Vec F S96x1 .f32) (x6 : Vec F S96x1 .f32) (x7 : Vec F S96x1 .f32) :
    { L8 : List (View.Piece (Elt F) S1x96x56x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, fun E K => ?run⟩
  case run =>
    simp only [cc1__main_kernel_eq_skeleton]; unfold cc1__main_kernel_skel
    simp only [k1_part44_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

variable (V : (c : Dev nD) → (b : Ref sig .tc) → Buf (Elt F) ((c : Thread nD τ).loc b))

/-- Window `w`'s block at point `t`, as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The run at point `t`. -/
def rM (c : Dev nD) (t : Fin cfg1.N) :=
  run1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
    (iblk1 V c 0 t) (iblk1 V c 1 t) (iblk1 V c 2 t) (iblk1 V c 3 t) (iblk1 V c 4 t) (iblk1 V c 5 t) (iblk1 V c 6 t) (iblk1 V c 7 t)

theorem covM (c : Dev nD) (t : Fin cfg1.N) (y : S1x96x56x224.Idx) : ∃ pc ∈ (rM V c t).1, y ∈ pc.1.set :=
  View.cover_of_tiledL (rM V c t).1 S1x96x1x224.size (by sl_kernel_rfl) y

/-- What the body leaves in the output buffer at point `t`. -/
def outs1 (c : Dev nD) (t : Fin cfg1.N) : Vec F S1x96x56x224 .f32 :=
  (ms1_8 t).view.read (Elt F) ((ms1_8 t).view.writes (Elt F) (ms1_8 t).view.junk (rM V c t).1)

/-- The second call's proof data: arrays as found; each input buffer at its block, the output buffer at `outs1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outs1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outs1 V c t := by dsimp only [dat1]

/- Each input's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outs1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rM V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (covM V c t)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Pre
public import proofs.«01_k».proof.Proof.Main

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: host operations and the two calls, from the launch to the return. `W0` … `W12` are the
    buffers' contents between its parts. -/

/-- The argument arrays. -/
abbrev argRefs : List (Ref sig .tc) := [main_arg0, main_arg1, main_arg2, main_arg3, main_arg4, main_arg5, main_arg6, main_arg7, main_arg8, main_arg9, main_arg10, main_arg11]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v8, main_v9, main_c]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call0_v0, main_v10]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v11, main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call1_v0, main_v12]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_v13, main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_call2_v0, main_v14]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOps1_7_fresh : (hostOps1_7 : List (HloOp τ sig (Elt F))).Forall fun op => op.fresh = ∅ := by
  simp only [List.Forall]; repeat' constructor
abbrev hostOps1_7_W : List (Ref sig .tc) := [main_call3_v0, main_v15]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_7_args : ∀ a ∈ argRefs, a ∉ hostOps1_7_W := ListAll.forall_mem_of_all_decide (by decide +kernel)

theorem hostOps1_8_fresh : (hostOps1_8 : List (HloOp τ sig (Elt F))).Forall fun op => op.fresh = ∅ := by
  simp only [List.Forall]; repeat' constructor
abbrev hostOps1_8_W : List (Ref sig .tc) := [main_v16, main_v17, main_v18, main_v19, main_v20]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_8_args : ∀ a ∈ argRefs, a ∉ hostOps1_8_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
abbrev W5 : Dev nD → Valuation τ sig (Elt F) := fun c => StableHlo.after hostOps1_2 (W4 m ρ c)
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
abbrev W6 : Dev nD → Valuation τ sig (Elt F) := fun c => StableHlo.after hostOps1_3 (W5 m ρ c)
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
abbrev W7 : Dev nD → Valuation τ sig (Elt F) := fun c => StableHlo.after hostOps1_4 (W6 m ρ c)
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
abbrev W8 : Dev nD → Valuation τ sig (Elt F) := fun c => StableHlo.after hostOps1_5 (W7 m ρ c)
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
abbrev W9 : Dev nD → Valuation τ sig (Elt F) := fun c => StableHlo.after hostOps1_6 (W8 m ρ c)
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
abbrev W10 : Dev nD → Valuation τ sig (Elt F) := fun c => StableHlo.after hostOps1_7 (W9 m ρ c)
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
abbrev W11 : Dev nD → Valuation τ sig (Elt F) := fun c => StableHlo.after hostOps1_8 (W10 m ρ c)
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory with zero counters every weakly fair run ends, nothing faulting, with every buffer at the
    last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- An argument array ends as it was launched. -/
theorem kept {r : PUnit × MemSt nD τ sig (Elt F)}
    (h : ∀ c : Dev nD, ∀ b ∈ Pipeline.ucRefs τ sig, r.2.mem (((c : Thread nD τ)).1, b) = W12 m ρ c b) (c : Dev nD)
    (a : Ref sig .tc) (ha : a ∈ argRefs) (hs : ¬ (Proc.devRef .tc a : DevRef τ sig).isScoped) :
    r.2.mem ((c.tc : Thread nD τ).loc a) = m ((c.tc : Thread nD τ).loc a) :=
  (h c _ (mem_uc a hs)).trans (W12_args m ρ c a ha)

/-- The frame: every run ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    ⟨kept m ρ h.1 c main_arg0 (by decide) (by decide),
     kept m ρ h.1 c main_arg1 (by decide) (by decide),
     kept m ρ h.1 c main_arg2 (by decide) (by decide),
     kept m ρ h.1 c main_arg3 (by decide) (by decide),
     kept m ρ h.1 c main_arg4 (by decide) (by decide),
     kept m ρ h.1 c main_arg5 (by decide) (by decide),
     kept m ρ h.1 c main_arg6 (by decide) (by decide),
     kept m ρ h.1 c main_arg7 (by decide) (by decide),
     kept m ρ h.1 c main_arg8 (by decide) (by decide),
     kept m ρ h.1 c main_arg9 (by decide) (by decide),
     kept m ρ h.1 c main_arg10 (by decide) (by decide),
     kept m ρ h.1 c main_arg11 (by decide) (by decide)⟩, h.2⟩) (run_all m ρ)

end Cert.KernelIdeal.Hand

end
-- ==== Proof.Same.lean ====
/- The kernel as run and the ideal kernel have one text, so what is proved of either program for any arithmetic
   holds of the other. -/
module

public import proofs.«01_k».proof.Defs
public import proofs.«01_k».proof.Proof.Gen.Kernel
public import proofs.«01_k».proof.Proof.Gen.KernelIdeal
public import Idealize.ShloMosaic.Lib.Pipeline.RegionsLoop
public import Idealize.ShloMosaic.Lib.Tactic

@[expose] public section

namespace Cert.Same

open Idealize.ShloMosaic Idealize.ShloMosaic.Tactic Idealize.SL.Sem

variable [Cert.Kernel.Facts] [Cert.KernelIdeal.Facts]

set_option maxHeartbeats 0 in
theorem main_eq : (Cert.Kernel.main (F := Bits)) = (Cert.KernelIdeal.main (F := Bits)) := by chain_rfl

set_option maxHeartbeats 0 in
theorem defs_eq : (Cert.Kernel.defs (F := Bits)) = (Cert.KernelIdeal.defs (F := Bits)) := by chain_rfl

end Cert.Same
-- ==== Proof.MainPieces.lean ====
module

public import proofs.«01_k».proof.Proof.Main
public import Idealize.ShloMosaic.PureOps.Ideal
public import Idealize.ShloMosaic.Lib.Pipeline.ValueKit

/- The second call's stores. The body writes its block row by row, 56 stores of one chain of operations; here the chain
   is written once, with the row as a parameter, and the list of stores is the list of its instances. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem strip_slices (p : ℕ) (hp : p < 58) : S72x384.Slices ![p + 7, 0] S1x384 :=
  ⟨rfl, fun a => by fin_cases a <;> simp <;> omega⟩

theorem half_slices (k : ℕ) (hk : k < 4) : S384x224.Slices ![96 * k, 0] S96x224 :=
  ⟨rfl, fun a => by fin_cases a <;> simp <;> omega⟩

theorem row_inb (r : Fin 56) : ∀ a, (![0, 0, (r : ℕ), 0] : Fin 4 → ℕ) a + S1x96x1x224.size a ≤ S1x96x56x224.size a :=
  fun a => by fin_cases a <;> simp <;> omega

/-- The 32 rows of zeros and ones built from the row of indices `p + 7` of the block: row `s` compares the index seen at
    horizontal offset `d s` with `j s`. -/
def strip (A : IVec S72x384 32) (d j : IVec S32x224 32) (p : ℕ) (hp : p < 58) : FVec Ideal S32x224 .bf16 :=
  have row : IVec S1x384 32 := extractStridedSlice S1x384 ![p + 7, 0] A (strip_slices p hp)
  have y0 : IVec S32x224 32 := broadcastTo S32x224 (shapeCast S1x224 (extractStridedSlice S1x224 ![0, 127] row (by decide)) (by decide)) (by decide)
  have y1 : IVec S32x224 32 := broadcastTo S32x224 (shapeCast S1x224 (extractStridedSlice S1x224 ![0, 128] row (by decide)) (by decide)) (by decide)
  have y2 : IVec S32x224 32 := broadcastTo S32x224 (shapeCast S1x224 (extractStridedSlice S1x224 ![0, 129] row (by decide)) (by decide)) (by decide)
  have yy : IVec S32x224 32 := select (cmpi .eq d (broadcast S32x224 0#32)) y0 (select (cmpi .eq d (broadcast S32x224 1#32)) y1 y2)
  truncf .bf16 (sitofp .f32 (extui 32 (cmpi .eq yy j) (by decide))) (by decide)

/-- The four strips of the pair of rows `i`, in the order the pair finds them. -/
def stack (A : IVec S72x384 32) (d j : IVec S32x224 32) (i : ℕ) (hi : i < 28) : FVec Ideal S128x224 .bf16 :=
  concatenate S128x224 0
    [⟨S32x224, strip A d j (2 * i + (2 * (i % 2) + 0) % 4) (by omega)⟩, ⟨S32x224, strip A d j (2 * i + (2 * (i % 2) + 1) % 4) (by omega)⟩,
     ⟨S32x224, strip A d j (2 * i + (2 * (i % 2) + 2) % 4) (by omega)⟩, ⟨S32x224, strip A d j (2 * i + (2 * (i % 2) + 3) % 4) (by omega)⟩]
    concatenates_S32x224_S32x224_S32x224_S32x224_S128x224_d0

/-- The product of the pair of rows `i`: the coefficients, in the order of the pair's strips, with the strips. -/
def pairProd (a b : FVec Ideal S384x128 .bf16) (A : IVec S72x384 32) (d j : IVec S32x224 32) (i : ℕ) (hi : i < 28) :
    FVec Ideal S384x224 .f32 :=
  matmul dot_S384x128_S128x224_S384x224_1_0_0_1_n_n none (if i % 2 = 0 then a else b) (stack A d j i hi)
    (constant S384x224 .f32 0x00000000#32)

/-- What is stored in row `r`. -/
def rowOut (a b : FVec Ideal S384x128 .bf16) (A : IVec S72x384 32) (d j : IVec S32x224 32) (r : Fin 56)
    (x : Vec Ideal S1x96x1x224 .f32) : FVec Ideal S1x96x1x224 .f32 :=
  have P : FVec Ideal S384x224 .f32 := pairProd a b A d j (r.val / 2) (by omega)
  shapeCast S1x96x1x224
    (addf (mulf (shapeCast S96x224 x (by decide))
        (extractStridedSlice S96x224 ![96 * (2 * (r.val % 2)), 0] P (half_slices _ (by omega))))
      (extractStridedSlice S96x224 ![96 * (2 * (r.val % 2) + 1), 0] P (half_slices _ (by omega))))
    (by decide)

/-- The scale and the shift of the normalisation, per channel. -/
def scaleV (s0 s1 : Vec Ideal S1x96x224 .f32) (w : Vec Ideal S96x1 .f32) : FVec Ideal S96x1 .f32 := k1_pay5 s0 s1 w
def shiftV (s0 s1 : Vec Ideal S1x96x224 .f32) (w b : Vec Ideal S96x1 .f32) : FVec Ideal S96x1 .f32 := k1_pay6 s0 s1 w b

/-- The coefficients: gamma and beta, for the first and for the second row of a pair, with the normalisation taken in. -/
def coef (big : Vec Ideal S1x384x128 .f32) (s0 s1 : Vec Ideal S1x96x224 .f32) (w b gb bb : Vec Ideal S96x1 .f32) :
    FVec Ideal S384x128 .bf16 :=
  have lane : IVec S96x128 32 := iota .tc S96x128 32 [1] iota_S96x128_d1_w32
  have bg0 : FVec Ideal S96x128 .f32 := k1_pay11 (k1_pay7 big) lane 32#32 k1_pay8 k1_pay9 0#32 gb
  k1_pay18 (scaleV s0 s1 w) (shiftV s0 s1 w b) (k1_pay7 big) (k1_pay12 (scaleV s0 s1 w) bg0)
    (k1_pay13 (shiftV s0 s1 w b) (k1_pay7 big) (k1_pay10 (F := Ideal) lane 32#32 k1_pay8 k1_pay9 0#32) bg0 bb)
    (k1_pay14 lane) (Scalar.select (Scalar.cmpi .eq 32#32 0#32) 1#32 32#32) (k1_pay15 lane) (k1_pay16 lane) (k1_pay17 lane) gb bb

/-- The coefficients with the two halves of the lanes exchanged. -/
def coefSwap (c : FVec Ideal S384x128 .bf16) : FVec Ideal S384x128 .bf16 :=
  concatenate S384x128 1
    [⟨S384x64, extractStridedSlice S384x64 ![0, 64] c (by decide)⟩, ⟨S384x64, extractStridedSlice S384x64 ![0, 0] c (by decide)⟩] concatenates_S384x64_S384x64_S384x128_d1

/-- Row `s` of a strip is at horizontal offset `s / 9` and compares with `s - 9 * (s / 9)`. -/
def dselV : IVec S32x224 32 := k1_pay23 (iota .tc S32x224 32 [0] iota_S32x224_d0_w32) 9#32 k1_pay21 k1_pay22 0#32
def jselV : IVec S32x224 32 := k1_pay24 (iota .tc S32x224 32 [0] iota_S32x224_d0_w32) 9#32 k1_pay21 k1_pay22 0#32

variable (V : (c : Dev nD) → (b : Ref sig .tc) → Buf (Elt Ideal) ((c : Thread nD τ).loc b))

/-- The block's row `r`. -/
def fpRow (c : Dev nD) (t : Fin cfg1.N) (r : Fin 56) : Vec Ideal S1x96x1x224 .f32 :=
  View.readAt (Elt Ideal) (ms1_0 t).view (Rect.unit (s := S1x96x56x224) ![0, 0, (r : ℕ), 0] S1x96x1x224.size (row_inb r)).toLoadRect
    ((hs1_0 t).unread (iblk1 V c 0 t))

theorem h96 : ∀ a, (![0, 0] : Fin 2 → ℕ) a + S96x1.size a ≤ S96x1.size a := by decide

def s0L (c : Dev nD) (t : Fin cfg1.N) : Vec Ideal S1x96x224 .f32 :=
  View.readAt (Elt Ideal) (ms1_3 t).view (Rect.unit (s := S2x96x224) ![0, 0, 0] S1x96x224.size (by decide)).toLoadRect ((hs1_3 t).unread (iblk1 V c 3 t))
def s1L (c : Dev nD) (t : Fin cfg1.N) : Vec Ideal S1x96x224 .f32 :=
  View.readAt (Elt Ideal) (ms1_3 t).view (Rect.unit (s := S2x96x224) ![1, 0, 0] S1x96x224.size (by decide)).toLoadRect ((hs1_3 t).unread (iblk1 V c 3 t))
def bigL (c : Dev nD) (t : Fin cfg1.N) : Vec Ideal S1x384x128 .f32 :=
  View.readAt (Elt Ideal) (ms1_2 t).view (Rect.unit (s := S1x384x128) ![0, 0, 0] S1x384x128.size (by decide)).toLoadRect ((hs1_2 t).unread (iblk1 V c 2 t))
def wL (c : Dev nD) (t : Fin cfg1.N) : Vec Ideal S96x1 .f32 :=
  View.readAt (Elt Ideal) (ms1_4 t).view (Rect.unit (s := S96x1) ![0, 0] S96x1.size h96).toLoadRect ((hs1_4 t).unread (iblk1 V c 4 t))
def bL (c : Dev nD) (t : Fin cfg1.N) : Vec Ideal S96x1 .f32 :=
  View.readAt (Elt Ideal) (ms1_5 t).view (Rect.unit (s := S96x1) ![0, 0] S96x1.size h96).toLoadRect ((hs1_5 t).unread (iblk1 V c 5 t))
def gbL (c : Dev nD) (t : Fin cfg1.N) : Vec Ideal S96x1 .f32 :=
  View.readAt (Elt Ideal) (ms1_6 t).view (Rect.unit (s := S96x1) ![0, 0] S96x1.size h96).toLoadRect ((hs1_6 t).unread (iblk1 V c 6 t))
def bbL (c : Dev nD) (t : Fin cfg1.N) : Vec Ideal S96x1 .f32 :=
  View.readAt (Elt Ideal) (ms1_7 t).view (Rect.unit (s := S96x1) ![0, 0] S96x1.size h96).toLoadRect ((hs1_7 t).unread (iblk1 V c 7 t))
def idxL (c : Dev nD) (t : Fin cfg1.N) : IVec S72x384 32 :=
  k1_pay20 (View.readAt (Elt Ideal) (ms1_1 t).view
    (Rect.unit (s := S1x240x384) (k1_off1 (grid1.coords t)) S1x72x384.size (k1_off1_inb (grid1.coords t))).toLoadRect ((hs1_1 t).unread (iblk1 V c 1 t)))

def coefL (c : Dev nD) (t : Fin cfg1.N) : FVec Ideal S384x128 .bf16 :=
  coef (bigL V c t) (s0L V c t) (s1L V c t) (wL V c t) (bL V c t) (gbL V c t) (bbL V c t)

/-- The store of row `r`. -/
def rowPiece (c : Dev nD) (t : Fin cfg1.N) (r : Fin 56) : View.Piece (Elt Ideal) S1x96x56x224 .f32 :=
  ⟨Rect.unit (s := S1x96x56x224) ![0, 0, (r : ℕ), 0] S1x96x1x224.size (row_inb r),
    rowOut (coefL V c t) (coefSwap (coefL V c t)) (idxL V c t) dselV jselV r (fpRow V c t r)⟩

/-- The stores, the latest first, are the rows from the last to the first. -/
theorem rM_pieces (c : Dev nD) (t : Fin cfg1.N) : (rM V c t).1 = (List.finRange 56).reverse.map (rowPiece V c t) := by
  unfold rM run1
  dsimp only
  sl_kernel_rfl

end Cert.KernelIdeal.Hand
-- ==== Proof.MainVal.lean ====
module

public import proofs.«01_k».proof.Proof.MainPieces
public import Idealize.ShloMosaic.Lib.Pointwise

/- The second call's block at an index. Each row is the row of features times a sum over the strips, plus another. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A bit made a float: one or zero. -/
theorem bit_float (b : BitVec 1) : FloatOps.sitofp (F := Ideal) FTy.f32 (BitVec.setWidth 32 b) = if b = 1#1 then (1 : EReal) else 0 := by
  have h : ∀ b : BitVec 1, (BitVec.setWidth 32 b).toInt = if b = 1#1 then 1 else 0 := by decide
  show (((BitVec.setWidth 32 b).toInt : ℝ) : EReal) = _
  rw [h]; split <;> simp

theorem eq_float {w : ℕ} (x y : BitVec w) :
    FloatOps.sitofp (F := Ideal) FTy.f32 (BitVec.setWidth 32 (IntOp.cmpi .eq x y)) = if x = y then (1 : EReal) else 0 := by
  rw [bit_float]
  show (if BitVec.ofBool (decide (x = y)) = 1#1 then (1 : EReal) else 0) = _
  by_cases h : x = y <;> simp [h]

/-- Row `s` of the strip of index row `p`, at `x`: whether the index there is `s` minus nine times its offset. -/
def hot (A : IVec S72x384 32) (p : ℕ) (hp : p < 58) (s : Fin 32) (x : Fin 224) : EReal :=
  if A (ix2 ⟨p + 7, by omega⟩ ⟨127 + min (s.val / 9) 2 + x.val, by omega⟩) = BitVec.ofNat 32 (s.val - 9 * (s.val / 9)) then 1 else 0

theorem dsel_apply (s : Fin 32) (x : Fin 224) : dselV (ix2 s x) = BitVec.ofNat 32 (s.val / 9) := by
  pointwise [dselV, k1_pay23, k1_pay21, k1_pay22]
  revert s; decide +kernel

theorem jsel_apply (s : Fin 32) (x : Fin 224) : jselV (ix2 s x) = BitVec.ofNat 32 (s.val - 9 * (s.val / 9)) := by
  have h := dsel_apply s x
  unfold dselV at h
  pointwise [jselV, k1_pay24]
  rw [h]
  clear h; revert s; decide +kernel

theorem strip_apply (A : IVec S72x384 32) (p : ℕ) (hp : p < 58) (s : Fin 32) (x : Fin 224) :
    strip A dselV jselV p hp (ix2 s x) = hot A p hp s x := by
  pointwise [strip]
  rw [eq_float, dsel_apply, jsel_apply]
  unfold hot
  congr 2
  have hs : s.val / 9 = 0 ∨ s.val / 9 = 1 ∨ s.val / 9 = 2 ∨ s.val / 9 = 3 := by omega
  rcases hs with h | h | h | h <;> simp only [h] <;> rfl

theorem stack_apply (A : IVec S72x384 32) (i : ℕ) (hi : i < 28) (m : Fin 4) (s : Fin 32) (x : Fin 224) :
    stack A dselV jselV i hi (ix2 ⟨32 * m.val + s.val, by omega⟩ x) = hot A (2 * i + (2 * (i % 2) + m.val) % 4) (by omega) s x := by
  rw [← strip_apply]
  pointwise [stack]
  have := s.isLt
  obtain ⟨m, hm⟩ := m
  dsimp only
  interval_cases m
  · rw [dif_pos (by omega)]; congr 2; ext; dsimp only; omega
  · rw [dif_neg (by omega), dif_pos (by omega)]; congr 2; ext; dsimp only; omega
  · rw [dif_neg (by omega), dif_neg (by omega), dif_pos (by omega)]; congr 2; ext; dsimp only; omega
  · rw [dif_neg (by omega), dif_neg (by omega), dif_neg (by omega)]; congr 2; ext; dsimp only; omega

theorem coefSwap_apply (a : FVec Ideal S384x128 .bf16) (q : Fin 384) (m : Fin 4) (s : Fin 32) :
    coefSwap a (ix2 q ⟨32 * m.val + s.val, by omega⟩) = a (ix2 q ⟨32 * ((2 + m.val) % 4) + s.val, by omega⟩) := by
  pointwise [coefSwap]
  have := s.isLt
  obtain ⟨m, hm⟩ := m
  dsimp only
  interval_cases m
  · rw [dif_pos (by omega)]; congr 2; ext; dsimp only; omega
  · rw [dif_pos (by omega)]; congr 2; ext; dsimp only; omega
  · rw [dif_neg (by omega)]; congr 2; ext; dsimp only; omega
  · rw [dif_neg (by omega)]; congr 2; ext; dsimp only; omega

/-- A sum over `m * n` lanes as `m` sums over `n`. -/
theorem sum_lanes {M : Type} [AddCommMonoid M] (m n : ℕ) (f : Fin (m * n) → M) :
    ∑ l, f l = ∑ a : Fin m, ∑ b : Fin n, f ⟨n * a.val + b.val, by
      have := a.isLt; have := b.isLt; nlinarith [Nat.mul_le_mul_left n (show a.val + 1 ≤ m from a.isLt)]⟩ := by
  rw [← finProdFinEquiv.sum_comp, Fintype.sum_prod_type]
  refine Finset.sum_congr rfl fun a _ => Finset.sum_congr rfl fun b _ => congrArg f (Fin.ext ?_)
  simp [finProdFinEquiv, add_comm]

/-- The pair's product, with the four strips in the order of the rows they are of. -/
def pairSum (a : FVec Ideal S384x128 .bf16) (A : IVec S72x384 32) (i : ℕ) (hi : i < 28) (q : Fin 384) (x : Fin 224) : EReal :=
  ∑ m : Fin 4, ∑ s : Fin 32, a (ix2 q ⟨32 * m.val + s.val, by omega⟩) * hot A (2 * i + m.val) (by omega) s x

theorem hot_congr (A : IVec S72x384 32) {p p' : ℕ} (h : p = p') (hp : p < 58) (s : Fin 32) (x : Fin 224) :
    hot A p hp s x = hot A p' (h ▸ hp) s x := by subst h; rfl

theorem pairProd_apply (a : FVec Ideal S384x128 .bf16) (A : IVec S72x384 32) (i : ℕ) (hi : i < 28) (q : Fin 384) (x : Fin 224) :
    pairProd a (coefSwap a) A dselV jselV i hi (ix2 q x) = pairSum a A i hi q x := by
  pointwise [pairProd]
  refine (sum_lanes 4 32 _).trans ?_
  unfold pairSum
  by_cases h : i % 2 = 0
  · refine Finset.sum_congr rfl fun m _ => Finset.sum_congr rfl fun s _ => ?_
    rw [if_pos h, stack_apply]
    congr 1
    exact hot_congr A (by rw [h]; omega) _ s x
  · have h1 : i % 2 = 1 := by omega
    have e : ∀ m : Fin 4, (∑ s : Fin 32, (if i % 2 = 0 then a else coefSwap a) (ix2 q ⟨32 * m.val + s.val, by omega⟩)
          * stack A dselV jselV i hi (ix2 ⟨32 * m.val + s.val, by omega⟩ x))
        = ∑ s : Fin 32, a (ix2 q ⟨32 * ((2 + m.val) % 4) + s.val, by omega⟩) * hot A (2 * i + (2 + m.val) % 4) (by omega) s x := by
      intro m
      refine Finset.sum_congr rfl fun s _ => ?_
      rw [if_neg h, stack_apply, coefSwap_apply]
      congr 1
      exact hot_congr A (by rw [h1]) _ s x
    refine (Finset.sum_congr rfl fun m _ => e m).trans ?_
    rw [Fin.sum_univ_four, Fin.sum_univ_four]
    show _ + _ + _ + _ = _
    rw [add_assoc, add_comm, ← add_assoc]
    rfl

theorem rowOut_apply (a : FVec Ideal S384x128 .bf16) (A : IVec S72x384 32) (r : Fin 56) (X : Vec Ideal S1x96x1x224 .f32) (o : Fin 96) (x : Fin 224) :
    rowOut a (coefSwap a) A dselV jselV r X (ix4 0 o 0 x)
      = X (ix4 0 o 0 x) * pairSum a A (r.val / 2) (by omega) ⟨96 * (2 * (r.val % 2)) + o.val, by omega⟩ x
        + pairSum a A (r.val / 2) (by omega) ⟨96 * (2 * (r.val % 2) + 1) + o.val, by omega⟩ x := by
  pointwise [rowOut]
  rw [pairProd_apply, pairProd_apply]

/-- The mean, the scale and the shift of a channel, from the sums of its elements and of their squares. -/
def meanK (s0 : Vec Ideal S1x96x224 .f32) (o : Fin 96) : EReal :=
  Ideal.div (∑ x : Fin 224, s0 (ix3 0 o x)) (Ideal.ofBits FTy.f32 0x48440000#32)
def scaleK (s0 s1 : Vec Ideal S1x96x224 .f32) (w : Vec Ideal S96x1 .f32) (o : Fin 96) : EReal :=
  w (ix2 o 0) * Ideal.rsqrt (Ideal.div (∑ x : Fin 224, s1 (ix3 0 o x)) (Ideal.ofBits FTy.f32 0x48440000#32)
    - meanK s0 o * meanK s0 o + Ideal.ofBits FTy.f32 0x3727C5AC#32)
def shiftK (s0 s1 : Vec Ideal S1x96x224 .f32) (w b : Vec Ideal S96x1 .f32) (o : Fin 96) : EReal :=
  b (ix2 o 0) - meanK s0 o * scaleK s0 s1 w o

theorem mean_apply (s0 : Vec Ideal S1x96x224 .f32) (o : Fin 96) : k1_pay4 s0 (ix2 o 0) = meanK s0 o := by
  pointwise [k1_pay4]; rfl

theorem scale_apply (s0 s1 : Vec Ideal S1x96x224 .f32) (w : Vec Ideal S96x1 .f32) (o : Fin 96) :
    scaleV s0 s1 w (ix2 o 0) = scaleK s0 s1 w o := by
  pointwise [scaleV, k1_pay5]; rw [mean_apply]; rfl

theorem shift_apply (s0 s1 : Vec Ideal S1x96x224 .f32) (w b : Vec Ideal S96x1 .f32) (o : Fin 96) :
    shiftV s0 s1 w b (ix2 o 0) = shiftK s0 s1 w b o := by
  have h := scale_apply s0 s1 w o
  unfold scaleV at h
  pointwise [shiftV, k1_pay6]; rw [mean_apply, h]; rfl

/-- The lanes that take the bias: the first nine of the `k`-th 32. -/
def biasLane (k : ℕ) (l : Fin 128) : EReal := if l.val / 32 = k ∧ l.val % 32 < 9 then 1 else 0

/-- The coefficients of gamma, for row `k` of a pair. -/
def gamK (big : Vec Ideal S1x384x128 .f32) (gb : Vec Ideal S96x1 .f32) (k : Fin 2) (o : Fin 96) (l : Fin 128) : EReal :=
  big (ix3 0 ⟨192 * k.val + o.val, by omega⟩ l) + biasLane k.val l * (1 + gb (ix2 o 0))
def betK (big : Vec Ideal S1x384x128 .f32) (bb : Vec Ideal S96x1 .f32) (k : Fin 2) (o : Fin 96) (l : Fin 128) : EReal :=
  big (ix3 0 ⟨192 * k.val + 96 + o.val, by omega⟩ l) + biasLane k.val l * bb (ix2 o 0)

/-- The same as vectors. -/
def lane0V : FVec Ideal S96x128 .f32 :=
  k1_pay10 (F := Ideal) (iota .tc S96x128 32 [1] iota_S96x128_d1_w32) 32#32 k1_pay8 k1_pay9 0#32

def lane1V : FVec Ideal S96x128 .f32 :=
  have lane : IVec S96x128 32 := iota .tc S96x128 32 [1] iota_S96x128_d1_w32
  have c : BitVec 32 := Scalar.select (Scalar.cmpi .eq 32#32 0#32) 1#32 32#32
  sitofp .f32 (extui 32 (andi (k1_pay14 lane)
    (cmpi .slt (select (andi (xori (k1_pay17 lane) (broadcastTo S96x128 (broadcast S96x128 (Scalar.cmpi .slt c 0#32)) broadcasts_S96x128_S96x128))
      (k1_pay16 lane)) (addi (k1_pay15 lane) (broadcast S96x128 c)) (k1_pay15 lane)) (broadcast S96x128 9#32))) natLt_1_32)

theorem rows_slices (k : ℕ) (hk : k < 4) : S384x128.Slices ![96 * k, 0] S96x128 :=
  ⟨rfl, fun a => by fin_cases a <;> simp <;> omega⟩

def gamV (big : Vec Ideal S1x384x128 .f32) (gb : Vec Ideal S96x1 .f32) (L : FVec Ideal S96x128 .f32) (k : ℕ) (hk : k < 4) : FVec Ideal S96x128 .f32 :=
  addf (extractStridedSlice S96x128 ![96 * k, 0] (k1_pay7 big) (rows_slices k hk))
    (mulf L (broadcastTo S96x128 (addf (broadcast S96x1 (Scalar.ofBits .f32 0x3F800000#32)) (shapeCast S96x1 gb (by decide))) (by decide)))

def betV (big : Vec Ideal S1x384x128 .f32) (bb : Vec Ideal S96x1 .f32) (L : FVec Ideal S96x128 .f32) (k : ℕ) (hk : k < 4) : FVec Ideal S96x128 .f32 :=
  addf (extractStridedSlice S96x128 ![96 * k, 0] (k1_pay7 big) (rows_slices k hk)) (mulf L (broadcastTo S96x128 (shapeCast S96x1 bb (by decide)) (by decide)))

theorem coef_eq (big : Vec Ideal S1x384x128 .f32) (s0 s1 : Vec Ideal S1x96x224 .f32) (w b gb bb : Vec Ideal S96x1 .f32) :
    coef big s0 s1 w b gb bb = truncf .bf16 (concatenate S384x128 0
      [⟨S96x128, mulf (gamV big gb lane0V 0 (by omega)) (broadcastTo S96x128 (scaleV s0 s1 w) (by decide))⟩,
       ⟨S96x128, addf (betV big bb lane0V 1 (by omega)) (mulf (broadcastTo S96x128 (shiftV s0 s1 w b) (by decide)) (gamV big gb lane0V 0 (by omega)))⟩,
       ⟨S96x128, mulf (gamV big gb lane1V 2 (by omega)) (broadcastTo S96x128 (scaleV s0 s1 w) (by decide))⟩,
       ⟨S96x128, addf (betV big bb lane1V 3 (by omega)) (mulf (broadcastTo S96x128 (shiftV s0 s1 w b) (by decide)) (gamV big gb lane1V 2 (by omega)))⟩]
      concatenates_S96x128_S96x128_S96x128_S96x128_S384x128_d0) (by decide) := rfl

theorem lane0_apply (o : Fin 96) (l : Fin 128) : lane0V (ix2 o l) = biasLane 0 l := by
  pointwise [lane0V, k1_pay10, k1_pay8, k1_pay9]
  rw [bit_float]
  unfold biasLane
  congr 1
  apply propext
  revert l; decide +kernel

theorem lane1_apply (o : Fin 96) (l : Fin 128) : lane1V (ix2 o l) = biasLane 1 l := by
  pointwise [lane1V, k1_pay14, k1_pay15, k1_pay16, k1_pay17]
  rw [bit_float]
  unfold biasLane
  congr 1
  apply propext
  revert l; decide +kernel

theorem gamV_apply (big : Vec Ideal S1x384x128 .f32) (gb : Vec Ideal S96x1 .f32) (L : FVec Ideal S96x128 .f32) (k : ℕ) (hk : k < 4) (o : Fin 96) (l : Fin 128) :
    gamV big gb L k hk (ix2 o l) = big (ix3 0 ⟨96 * k + o.val, by omega⟩ l) + L (ix2 o l) * (1 + gb (ix2 o 0)) := by
  pointwise [gamV, k1_pay7]

theorem betV_apply (big : Vec Ideal S1x384x128 .f32) (bb : Vec Ideal S96x1 .f32) (L : FVec Ideal S96x128 .f32) (k : ℕ) (hk : k < 4) (o : Fin 96) (l : Fin 128) :
    betV big bb L k hk (ix2 o l) = big (ix3 0 ⟨96 * k + o.val, by omega⟩ l) + L (ix2 o l) * bb (ix2 o 0) := by
  pointwise [betV, k1_pay7]

theorem coef_gamma (big : Vec Ideal S1x384x128 .f32) (s0 s1 : Vec Ideal S1x96x224 .f32) (w b gb bb : Vec Ideal S96x1 .f32)
    (k : Fin 2) (o : Fin 96) (l : Fin 128) :
    coef big s0 s1 w b gb bb (ix2 ⟨96 * (2 * k.val) + o.val, by omega⟩ l) = gamK big gb k o l * scaleK s0 s1 w o := by
  rw [coef_eq]
  have := o.isLt
  obtain ⟨k, hk⟩ := k
  interval_cases k
  · have e : (⟨96 * (2 * 0) + o.val, by omega⟩ : Fin 384) = ⟨o.val, by omega⟩ := Fin.ext (by dsimp only; omega)
    rw [e]
    pointwise
    rw [gamV_apply, scale_apply, lane0_apply]
    rfl
  · have e : (⟨96 * (2 * 1) + o.val, by omega⟩ : Fin 384) = ⟨o.val + 192, by omega⟩ := Fin.ext (by dsimp only; omega)
    rw [e]
    pointwise
    rw [dif_neg (by omega), dif_neg (by omega), dif_pos (by omega)]
    have e' : ∀ h, (⟨o.val + 192 - 96 - 96, h⟩ : Fin 96) = o := fun h => Fin.ext (by dsimp only; omega)
    simp only [e']
    rw [gamV_apply, scale_apply, lane1_apply]
    rfl

theorem coef_beta (big : Vec Ideal S1x384x128 .f32) (s0 s1 : Vec Ideal S1x96x224 .f32) (w b gb bb : Vec Ideal S96x1 .f32)
    (k : Fin 2) (o : Fin 96) (l : Fin 128) :
    coef big s0 s1 w b gb bb (ix2 ⟨96 * (2 * k.val + 1) + o.val, by omega⟩ l)
      = betK big bb k o l + shiftK s0 s1 w b o * gamK big gb k o l := by
  rw [coef_eq]
  have := o.isLt
  obtain ⟨k, hk⟩ := k
  interval_cases k
  · have e : (⟨96 * (2 * 0 + 1) + o.val, by omega⟩ : Fin 384) = ⟨o.val + 96, by omega⟩ := Fin.ext (by dsimp only; omega)
    rw [e]
    pointwise
    rw [dif_neg (by omega), dif_pos (by omega)]
    have e' : ∀ h, (⟨o.val + 96 - 96, h⟩ : Fin 96) = o := fun h => Fin.ext (by dsimp only; omega)
    simp only [e']
    rw [gamV_apply, betV_apply, shift_apply, lane0_apply]
    rfl
  · have e : (⟨96 * (2 * 1 + 1) + o.val, by omega⟩ : Fin 384) = ⟨o.val + 288, by omega⟩ := Fin.ext (by dsimp only; omega)
    rw [e]
    pointwise
    rw [dif_neg (by omega), dif_neg (by omega), dif_neg (by omega)]
    have e' : ∀ h, (⟨o.val + 288 - 96 - 96 - 96, h⟩ : Fin 96) = o := fun h => Fin.ext (by dsimp only; omega)
    simp only [e']
    rw [gamV_apply, betV_apply, shift_apply, lane1_apply]
    rfl

end Cert.KernelIdeal.Hand
-- ==== Proof.PreSums.lean ====
module

public import proofs.«01_k».proof.Proof.Pre
public import proofs.«01_k».proof.Proof.MainVal
public import Idealize.ShloMosaic.Lib.Pipeline.ReadBack

/- The first call's sums: what its body leaves in the accumulated buffers, and their closed form over the sixteen points. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

/-- The index maps of the first call's windows, at a point. -/
theorem idx0 : ∀ t : Fin cfg0.N,
    win0_0.index t = ![(grid0.coords t 0).val, 0, (grid0.coords t 1).val, 0]
    ∧ win0_1.index t = ![(grid0.coords t 0).val, 0, (grid0.coords t 1).val, 0]
    ∧ win0_2.index t = ![0, 0, 0] ∧ win0_3.index t = ![0, 0] ∧ win0_4.index t = ![0, 0, 0] ∧ win0_5.index t = ![0, 0] ∧ win0_6.index t = ![0, 0]
    ∧ win0_7.index t = ![0, 0, 0] ∧ win0_8.index t = ![(grid0.coords t 0).val, 0, 0] ∧ win0_9.index t = ![0, 0, 0] ∧ win0_10.index t = ![0, 0] :=
  (by decide +kernel : ∀ t : Fin grid0.N, _)

/-- The image a point works on, and the image row that row `r` of its blocks is. -/
def img0 (t : Fin cfg0.N) : Fin 4 := ⟨(grid0.coords t 0).val, (grid0.coords t 0).isLt⟩
def row0 (t : Fin cfg0.N) (r : Fin 56) : Fin 224 :=
  ⟨56 * (grid0.coords t 1).val + r.val, by have : (grid0.coords t 1).val < 4 := (grid0.coords t 1).isLt; omega⟩

theorem coords0_0 (t : Fin cfg0.N) : (grid0.coords t 0).val = t.val / 4 :=
  (by decide +kernel : ∀ t : Fin grid0.N, (grid0.coords t 0).val = t.val / 4) t
theorem coords0_1 (t : Fin cfg0.N) : (grid0.coords t 1).val = t.val % 4 :=
  (by decide +kernel : ∀ t : Fin grid0.N, (grid0.coords t 1).val = t.val % 4) t

theorem fp_blk (c : Dev nD) (t : Fin cfg0.N) (o : Fin 96) (r : Fin 56) (x : Fin 224) :
    iblk0 V c 0 t (ix4 0 o r x) = V c main_arg0 (ix4 (img0 t) o (row0 t r) x) := by blk_ext [iblk0, idx0 t, img0, row0]
theorem sg_blk (c : Dev nD) (t : Fin cfg0.N) (j : Fin 8) (r : Fin 56) (x : Fin 224) :
    iblk0 V c 1 t (ix4 0 j r x) = V c main_arg1 (ix4 (img0 t) j (row0 t r) x) := by blk_ext [iblk0, idx0 t, img0, row0]

/-- A sum over the points' row blocks is a sum over images and rows. -/
theorem sum_points {M : Type*} [AddCommMonoid M] (f : Fin 4 → Fin 224 → M) :
    ∑ t : Fin cfg0.N, ∑ r : Fin 56, f (img0 t) (row0 t r) = ∑ n : Fin 4, ∑ h : Fin 224, f n h := by
  refine Fin.sum_points_lanes_congr (N := cfg0.N) 4 ?_ (by rw [show cfg0.N = 16 from N_0]) (by norm_num)
  intro t r h1 h2
  congr 1
  · apply Fin.ext; simp only [img0, coords0_0]
  · apply Fin.ext; simp only [row0, coords0_1]; omega

/-! ## The two rows of sums -/

/-- The two stores into the sums, over `L`. -/
def sumList (X : Vec Ideal S1x96x56x224 .f32) (v14 v7 : Vec Ideal S1x96x224 .f32) (L : List (View.Piece (Elt Ideal) S2x96x224 .f32)) :
    List (View.Piece (Elt Ideal) S2x96x224 .f32) :=
  ⟨Rect.unit (s := S2x96x224) ![1, 0, 0] S1x96x224.size inb_S2x96x224_S1x96x224_1_0_0, k0_pay24 X v14⟩
    :: ⟨Rect.unit (s := S2x96x224) ![0, 0, 0] S1x96x224.size inb_S2x96x224_S1x96x224_0_0_0, k0_pay23 X v7⟩ :: L

theorem emb_row0 (o : Fin 96) (x : Fin 224) :
    (Rect.unit (s := S2x96x224) ![0, 0, 0] S1x96x224.size inb_S2x96x224_S1x96x224_0_0_0).emb (ix3 0 o x) = (ix3 0 o x : S2x96x224.Idx) := by
  funext a; apply Fin.ext
  rw [ValueKit.rect_emb_unit_val]
  fin_cases a <;> simp
theorem emb_row1 (o : Fin 96) (x : Fin 224) :
    (Rect.unit (s := S2x96x224) ![1, 0, 0] S1x96x224.size inb_S2x96x224_S1x96x224_1_0_0).emb (ix3 0 o x) = (ix3 1 o x : S2x96x224.Idx) := by
  funext a; apply Fin.ext
  rw [ValueKit.rect_emb_unit_val]
  fin_cases a <;> simp
theorem off_row1 (o : Fin 96) (x : Fin 224) :
    (ix3 0 o x : S2x96x224.Idx) ∉ (Rect.unit (s := S2x96x224) ![1, 0, 0] S1x96x224.size inb_S2x96x224_S1x96x224_1_0_0).set := by
  intro hm
  obtain ⟨i, hi, he⟩ := (LoadRect.mem_set _).mp hm (0 : Fin 3)
  simp at he
  omega

theorem pay23_apply (X : Vec Ideal S1x96x56x224 .f32) (v : Vec Ideal S1x96x224 .f32) (o : Fin 96) (x : Fin 224) :
    k0_pay23 X v (ix3 0 o x) = v (ix3 0 o x) + ∑ h : Fin 56, X (ix4 0 o h x) := by
  pointwise [k0_pay23, k0_pay22]
theorem pay24_apply (X : Vec Ideal S1x96x56x224 .f32) (v : Vec Ideal S1x96x224 .f32) (o : Fin 96) (x : Fin 224) :
    k0_pay24 X v (ix3 0 o x) = v (ix3 0 o x) + ∑ h : Fin 56, X (ix4 0 o h x) * X (ix4 0 o h x) := by
  pointwise [k0_pay24, k0_pay22]

theorem sumList_row0 (X : Vec Ideal S1x96x56x224 .f32) (v14 v7 : Vec Ideal S1x96x224 .f32) (L) (o : Fin 96) (x : Fin 224) :
    View.canon (sumList X v14 v7 L) (ix3 0 o x) = v7 (ix3 0 o x) + ∑ h : Fin 56, X (ix4 0 o h x) :=
  let L0 : List (View.Piece (Elt Ideal) S2x96x224 .f32) :=
    ⟨Rect.unit (s := S2x96x224) ![0, 0, 0] S1x96x224.size inb_S2x96x224_S1x96x224_0_0_0, k0_pay23 X v7⟩ :: L
  have e1 : View.canon (sumList X v14 v7 L) (ix3 0 o x) = View.canon L0 (ix3 0 o x) := View.canon_cons_of_not_mem _ L0 (off_row1 o x)
  have e2 : View.canon L0 (ix3 0 o x) = View.canon L0 ((Rect.unit (s := S2x96x224) ![0, 0, 0] S1x96x224.size inb_S2x96x224_S1x96x224_0_0_0).emb (ix3 0 o x)) :=
    congrArg (View.canon L0) (emb_row0 o x).symm
  have e3 : View.canon L0 ((Rect.unit (s := S2x96x224) ![0, 0, 0] S1x96x224.size inb_S2x96x224_S1x96x224_0_0_0).emb (ix3 0 o x)) = k0_pay23 X v7 (ix3 0 o x) :=
    View.canon_cons_emb _ _ L _
  e1.trans (e2.trans (e3.trans (pay23_apply X v7 o x)))
theorem sumList_row1 (X : Vec Ideal S1x96x56x224 .f32) (v14 v7 : Vec Ideal S1x96x224 .f32) (L) (o : Fin 96) (x : Fin 224) :
    View.canon (sumList X v14 v7 L) (ix3 1 o x) = v14 (ix3 0 o x) + ∑ h : Fin 56, X (ix4 0 o h x) * X (ix4 0 o h x) :=
  (congrArg (View.canon (sumList X v14 v7 L)) (emb_row1 o x).symm).trans
    ((View.canon_cons_emb _ _ _ _).trans (pay24_apply X v14 o x))

/-- A point's block of the input, as its body loads it. -/
def fpL0 (c : Dev nD) (t : Fin cfg0.N) : Vec Ideal S1x96x56x224 .f32 :=
  View.readAt (Elt Ideal) (ms0_0 t).view (Rect.unit (s := S1x96x56x224) ![0, 0, 0, 0] S1x96x56x224.size inb_S1x96x56x224_S1x96x56x224_0_0_0_0).toLoadRect
    ((hs0_0 t).unread (iblk0 V c 0 t))
theorem fpL0_apply (c : Dev nD) (t : Fin cfg0.N) (o : Fin 96) (r : Fin 56) (x : Fin 224) :
    fpL0 V c t (ix4 0 o r x) = V c main_arg0 (ix4 (img0 t) o (row0 t r) x) := by
  unfold fpL0
  rw [View.readAt_eq_ld, (hs0_0 t).read_unread]
  exact (View.ld_unit_apply_of _ _ _ _ _ (ix4 0 o r x) fun a => by fin_cases a <;> simp).trans (fp_blk V c t o r x)

/-- Row `k` of the carried sums, as the body loads it. -/
def rowL (t : Fin cfg0.N) (k : Fin 2) (xo : Vec Ideal S2x96x224 .f32) : Vec Ideal S1x96x224 .f32 := fun i => xo (ix3 k (i 1) (i 2))
theorem row0L (t : Fin cfg0.N) (xo : Vec Ideal S2x96x224 .f32) (o : Fin 96) (x : Fin 224) :
    View.readAt (Elt Ideal) (ms0_7 t).view (Rect.unit (s := S2x96x224) ![0, 0, 0] S1x96x224.size inb_S2x96x224_S1x96x224_0_0_0).toLoadRect
      ((hs0_7 t).unread xo) (ix3 0 o x) = xo (ix3 0 o x) := by
  rw [View.readAt_eq_ld, (hs0_7 t).read_unread]
  exact View.ld_unit_apply_of _ _ _ _ _ (ix3 0 o x) fun a => by fin_cases a <;> simp
theorem row1L (t : Fin cfg0.N) (xo : Vec Ideal S2x96x224 .f32) (o : Fin 96) (x : Fin 224) :
    View.readAt (Elt Ideal) (ms0_7 t).view (Rect.unit (s := S2x96x224) ![1, 0, 0] S1x96x224.size inb_S2x96x224_S1x96x224_1_0_0).toLoadRect
      ((hs0_7 t).unread xo) (ix3 0 o x) = xo (ix3 1 o x) := by
  rw [View.readAt_eq_ld, (hs0_7 t).read_unread]
  exact View.ld_unit_apply_of _ _ _ _ _ (ix3 1 o x) fun a => by fin_cases a <;> simp

/-- A value, or its square. -/
def power (k : Fin 2) (v : EReal) : EReal := if k = 0 then v else v * v

/-- What a point adds to row `k` of the sums. -/
def sumTerm (c : Dev nD) (t : Fin cfg0.N) (k : Fin 2) (o : Fin 96) (x : Fin 224) : EReal :=
  ∑ r : Fin 56, power k (V c main_arg0 (ix4 (img0 t) o (row0 t r) x))

theorem sumList_apply (c : Dev nD) (t : Fin cfg0.N) (xo : Vec Ideal S2x96x224 .f32) (v14 v7 : Vec Ideal S1x96x224 .f32) (L)
    (h7 : ∀ o x, v7 (ix3 0 o x) = xo (ix3 0 o x)) (h14 : ∀ o x, v14 (ix3 0 o x) = xo (ix3 1 o x)) (k : Fin 2) (o : Fin 96) (x : Fin 224) :
    View.canon (sumList (fpL0 V c t) v14 v7 L) (ix3 k o x) = xo (ix3 k o x) + sumTerm V c t k o x := by
  fin_cases k
  · exact (sumList_row0 _ _ _ _ _ _).trans (by rw [h7]; simp only [fpL0_apply, sumTerm, power]; rfl)
  · exact (sumList_row1 _ _ _ _ _ _).trans (by rw [h14]; simp only [fpL0_apply, sumTerm, power]; rfl)

theorem pay20_apply (i : S2x96x224.Idx) : k0_pay20 (F := Ideal) i = 0 := by
  rw [eq_ix3 i]; pointwise [k0_pay20]
theorem zeroA (c : Dev nD) (t : Fin cfg0.N) (o : Fin 96) (x : Fin 224) : run0_A.sl.v7 (F := Ideal) c (ms0_7 t) (ix3 0 o x) = 0 := by
  unfold run0_A.sl.v7 run0_A.sl.H7_1
  rw [View.readCov_fill _ _ _ _ _ fun a => by fin_cases a <;> rfl]
  exact pay20_apply _
theorem off_row0 (o : Fin 96) (x : Fin 224) :
    (ix3 1 o x : S2x96x224.Idx) ∉ (Rect.unit (s := S2x96x224) ![0, 0, 0] S1x96x224.size inb_S2x96x224_S1x96x224_0_0_0).set := by
  intro hm
  obtain ⟨i, hi, he⟩ := (LoadRect.mem_set _).mp hm (0 : Fin 3)
  have hi' : i < 1 := hi
  simp at he
  omega
theorem zeroA1 (c : Dev nD) (t : Fin cfg0.N) (o : Fin 96) (x : Fin 224) :
    run0_A.sl.v14 (F := Ideal) c (ms0_0 t) (hs0_0 t) (ms0_7 t) (iblk0 V c 0 t) (ix3 0 o x) = 0 := by
  unfold run0_A.sl.v14 run0_A.sl.H7_2
  rw [View.readCov_eq_canon']
  refine (congrArg (View.canon _) (emb_row1 o x)).trans ?_
  rw [View.canon_cons_of_not_mem _ _ (off_row0 o x)]
  unfold run0_A.sl.H7_1
  rw [View.canon_cons_unit_lit _ _ _ fun a => by fin_cases a <;> rfl]
  exact pay20_apply _

theorem sumA (c : Dev nD) (t : Fin cfg0.N) (h : t.val = 0) (k : Fin 2) (o : Fin 96) (x : Fin 224) :
    (oA V c t h).1 (ix3 k o x) = 0 + sumTerm V c t k o x := by
  unfold oA; dsimp only
  rw [View.read_writes_junk_eq_canon]
  exact sumList_apply V c t (fun _ => 0) _ _ _
    (zeroA c t)
    (zeroA1 V c t)     k o x

theorem sumB (c : Dev nD) (t : Fin cfg0.N) (h) (xo7 : Vec Ideal S2x96x224 .f32) (xo9 : Vec Ideal S4x8x224 .f32) (k : Fin 2) (o : Fin 96) (x : Fin 224) :
    (oB V c t h xo7 xo9).1 (ix3 k o x) = xo7 (ix3 k o x) + sumTerm V c t k o x := by
  unfold oB; dsimp only
  rw [View.read_writes_junk_eq_canon]
  exact sumList_apply V c t xo7 _ _ _ (row0L t xo7) (row1L t xo7) k o x
theorem sumC (c : Dev nD) (t : Fin cfg0.N) (h) (xo7 : Vec Ideal S2x96x224 .f32) (xo8) (xo9 : Vec Ideal S4x8x224 .f32) (k : Fin 2) (o : Fin 96) (x : Fin 224) :
    (oC V c t h xo7 xo8 xo9).1 (ix3 k o x) = xo7 (ix3 k o x) + sumTerm V c t k o x := by
  unfold oC; dsimp only
  rw [View.read_writes_junk_eq_canon]
  exact sumList_apply V c t xo7 _ _ _ (row0L t xo7) (row1L t xo7) k o x
theorem sumD (c : Dev nD) (t : Fin cfg0.N) (h) (xo7 : Vec Ideal S2x96x224 .f32) (xo8) (xo9 : Vec Ideal S4x8x224 .f32) (k : Fin 2) (o : Fin 96) (x : Fin 224) :
    (oD V c t h xo7 xo8 xo9).1 (ix3 k o x) = xo7 (ix3 k o x) + sumTerm V c t k o x := by
  unfold oD; dsimp only
  rw [View.read_writes_junk_eq_canon]
  exact sumList_apply V c t xo7 _ _ _ (row0L t xo7) (row1L t xo7) k o x

theorem sum_first (c : Dev nD) (t : Fin cfg0.N) (h : t.val % 16 = 0) (k : Fin 2) (o : Fin 96) (x : Fin 224) :
    (outs0 V c t.val t.isLt).1 (ix3 k o x) = 0 + sumTerm V c t k o x := by
  have h0 : t.val = 0 := by have := lt16 t; omega
  rw [outs0_A V c t h0]; exact sumA V c t h0 k o x
theorem sum_step (c : Dev nD) (t : Fin cfg0.N) (h : ¬t.val % 16 = 0) (k : Fin 2) (o : Fin 96) (x : Fin 224) :
    (outs0 V c t.val t.isLt).1 (ix3 k o x) = (prev0 V c t).1 (ix3 k o x) + sumTerm V c t k o x := by
  by_cases hD : t.val = 15
  · rw [outs0_D V c t hD]; exact sumD V c t hD _ _ _ k o x
  · by_cases hB : t.val % 4 = 0
    · have hB' : t.val % 4 = 0 ∧ t.val ≠ 0 := ⟨hB, by omega⟩
      rw [outs0_B V c t hB']; exact sumB V c t hB' _ _ k o x
    · rw [outs0_C V c t ⟨hB, hD⟩]; exact sumC V c t ⟨hB, hD⟩ _ _ _ k o x

/-- The last point. -/
def last0 : Fin cfg0.N := ⟨15, by rw [show cfg0.N = 16 from N_0]; norm_num⟩

/-- The sums after the last point. -/
theorem sum_last (c : Dev nD) (k : Fin 2) (o : Fin 96) (x : Fin 224) :
    (outs0 V c last0.val last0.isLt).1 (ix3 k o x)
      = ∑ n : Fin 4, ∑ h : Fin 224, power k (V c main_arg0 (ix4 n o h x)) := by
  have := Pipeline.eq_sum_fin_of_reset_step_last (fun n hn => (outs0 V c n hn).1 (ix3 k o x)) 16 0 (fun t => sumTerm V c t k o x)
    (fun t h => sum_first V c t h k o x) (fun t h => sum_step V c t h k o x) (by rw [show cfg0.N = 16 from N_0]) last0 (show 15 + 1 = cfg0.N from N_0.symm)
  rw [zero_add] at this
  refine this.trans ?_
  unfold sumTerm
  exact sum_points fun n h => power k (V c main_arg0 (ix4 n o h x))

/-- The array of sums. -/
theorem arr0_7 (c : Dev nD) (k : Fin 2) (o : Fin 96) (x : Fin 224) :
    (dat0 V c).arrAt 7 cfg0.N (ix3 k o x)
      = ∑ n : Fin 4, ∑ h : Fin 224, power k (V c main_arg0 (ix4 n o h x)) := by
  have key := (dat0 V c).arrAt_eq_of_after_last 7 last0 (by decide +kernel) (outs0 V c last0.val last0.isLt).1 fun j => by
    blk_simp; rw [after0_7]
  exact (congrFun key (ix3 k o x)).trans (sum_last V c k o x)

end Cert.KernelIdeal.Hand
-- ==== Proof.PreIdx.lean ====
module

public import proofs.«01_k».proof.Proof.PreSums
public import Idealize.ShloMosaic.Lib.WritesUnit

/- The first call's region index, padded: every pixel's region number, eight outside the image; and its pixel counts. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

/-- The masks' threshold. -/
def thr : EReal := Ideal.ofBits FTy.f32 1056964608#32

/-- The region of a pixel from its eight mask values: the last one above the threshold, eight if none is. -/
def regionOf (m : Fin 8 → EReal) : BitVec 32 :=
  if thr < m 7 then 7#32 else if thr < m 6 then 6#32 else if thr < m 5 then 5#32 else if thr < m 4 then 4#32
  else if thr < m 3 then 3#32 else if thr < m 2 then 2#32 else if thr < m 1 then 1#32 else if thr < m 0 then 0#32 else 8#32

theorem pay28_apply (S : FVec Ideal S8x56x224 .f32) (r : Fin 56) (x : Fin 224) :
    k0_pay28 S (ix3 0 r x) = regionOf fun j => S (ix3 j r x) := by
  pointwise [k0_pay28, k0_pay27]; rfl

/-- The region of pixel `(h, x)` of image `n`. -/
def regN (SG : FVec Ideal S4x8x224x224 .f32) (n : Fin 4) (h x : Fin 224) : BitVec 32 := regionOf fun j => SG (ix4 n j h x)

/-- The padded index: the region inside the image, eight outside. -/
def padReg (SG : FVec Ideal S4x8x224x224 .f32) (n : Fin 4) (y : Fin 240) (z : Fin 384) : BitVec 32 :=
  if h : 8 ≤ y.val ∧ y.val < 232 ∧ 128 ≤ z.val ∧ z.val < 352 then regN SG n ⟨y.val - 8, by omega⟩ ⟨z.val - 128, by omega⟩ else 8#32

/-- The padded index with the rows below the first `k` blocks not yet filled in. -/
def padUpTo (SG : FVec Ideal S4x8x224x224 .f32) (n : Fin 4) (k : ℕ) (y : Fin 240) (z : Fin 384) : BitVec 32 :=
  if y.val < 8 + 56 * k then padReg SG n y z else 8#32

/-- A point's block of the masks, as its body loads it. -/
def sgL0 (c : Dev nD) (t : Fin cfg0.N) : FVec Ideal S8x56x224 .f32 :=
  k0_pay26 (View.readAt (Elt Ideal) (ms0_1 t).view (Rect.unit (s := S1x8x56x224) ![0, 0, 0, 0] S1x8x56x224.size inb_S1x8x56x224_S1x8x56x224_0_0_0_0).toLoadRect
    ((hs0_1 t).unread (iblk0 V c 1 t)))
theorem sgL0_apply (c : Dev nD) (t : Fin cfg0.N) (j : Fin 8) (r : Fin 56) (x : Fin 224) :
    sgL0 V c t (ix3 j r x) = V c main_arg1 (ix4 (img0 t) j (row0 t r) x) := by
  unfold sgL0
  pointwise [k0_pay26]
  rw [View.readAt_eq_ld, (hs0_1 t).read_unread]
  exact (View.ld_unit_apply_of _ _ _ _ _ (ix4 0 j r x) fun a => by fin_cases a <;> simp).trans (sg_blk V c t j r x)

theorem off0 : ∀ t : Fin cfg0.N, k0_off1 (grid0.coords t) = ![0, 8 + 56 * (t.val % 4), 128] :=
  (by decide +kernel : ∀ t : Fin grid0.N, _)

/-- The store of a point's rows over what `(f, L)` left, which read as the index filled in up to its rows. -/
theorem idx_store (c : Dev nD) (t : Fin cfg0.N) (f : (ms0_8 t).view.ty.Contents (Elt Ideal)) (L : List (View.Piece (Elt Ideal) S1x240x384 .i32))
    (h : ∀ (y : Fin 240) (z : Fin 384), (ms0_8 t).view.read (Elt Ideal) ((ms0_8 t).view.writes (Elt Ideal) f L) (ix3 0 y z) = padUpTo (V c main_arg1) (img0 t) (t.val % 4) y z)
    (y : Fin 240) (z : Fin 384) :
    (ms0_8 t).view.read (Elt Ideal) ((ms0_8 t).view.writes (Elt Ideal) f
      (⟨Rect.unit (s := S1x240x384) (k0_off1 (grid0.coords t)) S1x56x224.size (k0_off1_inb (grid0.coords t)), k0_pay28 (sgL0 V c t)⟩ :: L)) (ix3 0 y z)
      = padUpTo (V c main_arg1) (img0 t) (t.val % 4 + 1) y z := by
  by_cases hy : 8 + 56 * (t.val % 4) ≤ y.val ∧ y.val < 8 + 56 * (t.val % 4) + 56
  · by_cases hz : 128 ≤ z.val ∧ z.val < 352
    · refine (View.read_writes_cons_unit_of_mem _ _ _ _ _ _ (ix3 0 ⟨y.val - (8 + 56 * (t.val % 4)), by omega⟩ ⟨z.val - 128, by omega⟩) (off0 t) ?_).trans ?_
      · intro a
        fin_cases a
        · rfl
        · show y.val = 8 + 56 * (t.val % 4) + (y.val - (8 + 56 * (t.val % 4))); omega
        · show z.val = 128 + (z.val - 128); omega
      · rw [pay28_apply]
        unfold padUpTo padReg
        rw [if_pos (by omega), dif_pos (by omega)]
        unfold regN
        congr 1; funext j
        rw [sgL0_apply]
        congr 2
        apply Fin.ext; simp only [row0, coords0_1]; omega
    · refine (View.read_writes_cons_unit_of_not_mem _ _ _ _ _ _ (off0 t) 2 ?_).trans ((h y z).trans ?_)
      · show z.val < 128 ∨ 128 + 224 ≤ z.val; omega
      · unfold padUpTo padReg
        rw [dif_neg (by omega)]; simp
  · refine (View.read_writes_cons_unit_of_not_mem _ _ _ _ _ _ (off0 t) 1 ?_).trans ((h y z).trans ?_)
    · show y.val < 8 + 56 * (t.val % 4) ∨ 8 + 56 * (t.val % 4) + 56 ≤ y.val; omega
    · unfold padUpTo
      by_cases h1 : y.val < 8 + 56 * (t.val % 4)
      · rw [if_pos h1, if_pos (by omega)]
      · rw [if_neg h1, if_neg (by omega)]

/-- The fill with eights. -/
theorem idx_fill (c : Dev nD) (t : Fin cfg0.N) (h : t.val % 4 = 0) (y : Fin 240) (z : Fin 384) :
    (ms0_8 t).view.read (Elt Ideal) ((ms0_8 t).view.writes (Elt Ideal) (ms0_8 t).view.junk
      [⟨Rect.unit (s := S1x240x384) ![0, 0, 0] S1x240x384.size inb_S1x240x384_S1x240x384_0_0_0, k0_pay25⟩]) (ix3 0 y z)
      = padUpTo (V c main_arg1) (img0 t) (t.val % 4) y z := by
  rw [View.read_writes_junk_eq_canon, View.canon_cons_unit_lit _ _ _ fun a => by fin_cases a <;> rfl]
  unfold padUpTo padReg
  rw [h]
  have e : k0_pay25 (ix3 0 y z) = 8#32 := by pointwise [k0_pay25]
  rw [e]
  by_cases h1 : y.val < 8 + 56 * 0
  · rw [if_pos h1, dif_neg (by omega)]
  · rw [if_neg h1]

theorem idxA (c : Dev nD) (t : Fin cfg0.N) (h : t.val = 0) (y : Fin 240) (z : Fin 384) :
    (oA V c t h).2.1 (ix3 0 y z) = padUpTo (V c main_arg1) (img0 t) (t.val % 4 + 1) y z := by
  unfold oA; dsimp only
  exact idx_store V c t _ _ (idx_fill V c t (by omega)) y z
theorem idxB (c : Dev nD) (t : Fin cfg0.N) (h) (xo7 : Vec Ideal S2x96x224 .f32) (xo9 : Vec Ideal S4x8x224 .f32) (y : Fin 240) (z : Fin 384) :
    (oB V c t h xo7 xo9).2.1 (ix3 0 y z) = padUpTo (V c main_arg1) (img0 t) (t.val % 4 + 1) y z := by
  unfold oB; dsimp only
  exact idx_store V c t _ _ (idx_fill V c t h.1) y z
theorem idxC (c : Dev nD) (t : Fin cfg0.N) (h) (xo7 : Vec Ideal S2x96x224 .f32) (xo8) (xo9 : Vec Ideal S4x8x224 .f32)
    (hx : ∀ y z, xo8 (ix3 0 y z) = padUpTo (V c main_arg1) (img0 t) (t.val % 4) y z) (y : Fin 240) (z : Fin 384) :
    (oC V c t h xo7 xo8 xo9).2.1 (ix3 0 y z) = padUpTo (V c main_arg1) (img0 t) (t.val % 4 + 1) y z := by
  unfold oC; dsimp only
  exact idx_store V c t _ [] (fun y z => (congrFun ((hs0_8 t).read_unread xo8) _).trans (hx y z)) y z
theorem idxD (c : Dev nD) (t : Fin cfg0.N) (h) (xo7 : Vec Ideal S2x96x224 .f32) (xo8) (xo9 : Vec Ideal S4x8x224 .f32)
    (hx : ∀ y z, xo8 (ix3 0 y z) = padUpTo (V c main_arg1) (img0 t) (t.val % 4) y z) (y : Fin 240) (z : Fin 384) :
    (oD V c t h xo7 xo8 xo9).2.1 (ix3 0 y z) = padUpTo (V c main_arg1) (img0 t) (t.val % 4 + 1) y z := by
  unfold oD; dsimp only
  exact idx_store V c t _ [] (fun y z => (congrFun ((hs0_8 t).read_unread xo8) _).trans (hx y z)) y z

/-- The index buffer after a point. -/
theorem idx_after (c : Dev nD) : ∀ (n : ℕ) (hn : n < cfg0.N) (y : Fin 240) (z : Fin 384),
    (outs0 V c n hn).2.1 (ix3 0 y z) = padUpTo (V c main_arg1) (img0 ⟨n, hn⟩) (n % 4 + 1) y z := by
  intro n
  induction n with
  | zero => intro hn y z; exact idxA V c ⟨0, hn⟩ rfl y z
  | succ n ih =>
    intro hn y z
    have hN : n + 1 < 16 := lt16 ⟨n + 1, hn⟩
    have hprev : ¬(n + 1) % 4 = 0 → ∀ y z, (outs0 V c n (Nat.lt_of_succ_lt hn)).2.1 (ix3 0 y z)
        = padUpTo (V c main_arg1) (img0 ⟨n + 1, hn⟩) ((n + 1) % 4) y z := fun h y z => by
      rw [ih]
      have e1 : img0 ⟨n, Nat.lt_of_succ_lt hn⟩ = img0 ⟨n + 1, hn⟩ := by
        apply Fin.ext; simp only [img0, coords0_0]; omega
      have e2 : n % 4 + 1 = (n + 1) % 4 := by omega
      rw [e1, e2]
    by_cases hD : n + 1 = 15
    · exact (congrFun (congrArg (fun o => o.2.1) (outs0_D V c ⟨n + 1, hn⟩ hD)) _).trans (idxD V c ⟨n + 1, hn⟩ hD _ _ _ (hprev (by omega)) y z)
    · by_cases hB : (n + 1) % 4 = 0
      · exact (congrFun (congrArg (fun o => o.2.1) (outs0_B V c ⟨n + 1, hn⟩ ⟨hB, Nat.succ_ne_zero n⟩)) _).trans (idxB V c ⟨n + 1, hn⟩ _ _ _ y z)
      · exact (congrFun (congrArg (fun o => o.2.1) (outs0_C V c ⟨n + 1, hn⟩ ⟨hB, hD⟩)) _).trans (idxC V c ⟨n + 1, hn⟩ _ _ _ _ (hprev hB) y z)

/-- The padded index array. -/
theorem arr0_8 (c : Dev nD) (n : Fin 4) (y : Fin 240) (z : Fin 384) :
    (dat0 V c).arrAt 8 cfg0.N (ix3 n y z) = padReg (V c main_arg1) n y z := by
  have key := (dat0 V c).arrAt_eq_of_covers 8 (fun i : S4x240x384.Idx => padReg (V c main_arg1) (i 0) (i 1) (i 2)) (by decide +kernel) fun t hf y => by
    blk_simp
    rw [after0_8]
    have hy : ∀ i : S1x240x384.Idx, (outs0 V c t.val t.isLt).2.1 i = (outs0 V c t.val t.isLt).2.1 (ix3 0 (i 1) (i 2)) := fun i => congrArg _ (by
      conv_lhs => rw [eq_ix3 i]
      exact congrArg (fun a => ix3 a (i 1) (i 2)) (Subsingleton.elim (α := Fin 1) _ _))
    have he : ((win0_8.blk t).view.emb y : S4x240x384.Idx) = ix3 (img0 t) (y 1) (y 2) := by
      blk_ext [idx0 t, img0]
    have ht : t.val % 4 = 3 := (flush0_8 t).mp hf
    rw [he]
    refine (hy y).trans ((idx_after V c t.val t.isLt (y 1) (y 2)).trans ?_)
    rw [ht]
    unfold padUpTo padReg
    by_cases h1 : (y 1).val < 8 + 56 * (3 + 1)
    · exact if_pos h1
    · rw [if_neg h1, dif_neg fun h2 => h1 (by have := h2.2.1; dsimp only [ix3_1] at this; omega)]
  exact congrFun key (ix3 n y z)

/-! ## The counts -/

/-- A mask value's count: one above the threshold, else zero. -/
def above (v : EReal) : EReal := if thr < v then 1 else 0

theorem pay29_apply (S : FVec Ideal S8x56x224 .f32) (j : Fin 8) (x : Fin 224) : k0_pay29 S (ix2 j x) = ∑ r : Fin 56, above (S (ix3 j r x)) := by
  pointwise [k0_pay29, k0_pay27]
  refine Finset.sum_congr rfl fun r _ => ?_
  rw [bit_float]
  unfold above thr
  by_cases h : Ideal.ofBits FTy.f32 1056964608#32 < S (ix3 j r x) <;> simp [h]

theorem pay1_apply (b : BitVec 32) (v70 : FVec Ideal S8x224 .f32) (v74 : Vec Ideal S4x8x224 .f32) (n : Fin 4) (j : Fin 8) (x : Fin 224) :
    k0_pay1 b v70 v74 (ix3 n j x) = v74 (ix3 n j x) + if BitVec.ofNat 32 n.val = b then v70 (ix2 j x) else 0 := by
  pointwise [k0_pay1]
  congr 1
  by_cases h : BitVec.ofNat 32 n.val = b
  · simp [h, Scalar.select, IntOp.cmpi]
  · have h' : (BitVec.ofNat 32 n.val == b) = false := beq_eq_false_iff_ne.mpr h
    rw [if_neg h]
    show (if BitVec.ofBool (BitVec.ofNat 32 n.val == b) = 1#1 then v70 (ix2 j x) else 0) = 0
    rw [h', if_neg (by decide)]

/-- What a point adds to the counts. -/
def cntTerm (c : Dev nD) (t : Fin cfg0.N) (n : Fin 4) (j : Fin 8) (x : Fin 224) : EReal :=
  ∑ r : Fin 56, if img0 t = n then above (V c main_arg1 (ix4 (img0 t) j (row0 t r) x)) else 0

theorem cnt_apply (c : Dev nD) (t : Fin cfg0.N) (v : Vec Ideal S4x8x224 .f32) (n : Fin 4) (j : Fin 8) (x : Fin 224) :
    k0_pay1 (BitVec.ofNat 32 (grid0.coords t 0).val) (k0_pay29 (sgL0 V c t)) v (ix3 n j x) = v (ix3 n j x) + cntTerm V c t n j x := by
  rw [pay1_apply, pay29_apply]
  congr 1
  unfold cntTerm
  have e : (BitVec.ofNat 32 n.val = BitVec.ofNat 32 (grid0.coords t 0).val) ↔ img0 t = n := by
    rw [Fin.ext_iff]
    show _ ↔ (img0 t).val = n.val
    have h1 : (img0 t).val < 4 := (img0 t).isLt
    have h2 := n.isLt
    constructor
    · intro h
      have := congrArg BitVec.toNat h
      rw [BitVec.toNat_ofNat, BitVec.toNat_ofNat] at this
      change n.val % 2 ^ 32 = (img0 t).val % 2 ^ 32 at this
      omega
    · intro h; rw [← h]; rfl
  by_cases h : img0 t = n
  · rw [if_pos (e.mpr h)]
    refine Finset.sum_congr rfl fun r _ => ?_
    rw [if_pos h, sgL0_apply]
  · rw [if_neg fun h' => h (e.mp h')]
    simp [h]

theorem cntA (c : Dev nD) (t : Fin cfg0.N) (h : t.val = 0) (n : Fin 4) (j : Fin 8) (x : Fin 224) :
    (oA V c t h).2.2.1 (ix3 n j x) = 0 + cntTerm V c t n j x := by
  unfold oA; dsimp only
  rw [View.read_writes_junk_eq_canon]
  refine (congrFun (View.canon_cons_unit_lit _ _ _ fun a => by fin_cases a <;> rfl) _).trans ((cnt_apply V c t _ n j x).trans ?_)
  congr 1
  unfold run0_A.sl.v74 run0_A.sl.H9_1
  rw [View.readCov_fill _ _ _ _ _ fun a => by fin_cases a <;> rfl]
  refine (View.ld_unit_apply_of _ _ _ _ _ (ix3 n j x) fun a => by fin_cases a <;> simp).trans ?_
  pointwise [k0_pay21]
theorem cntL (t : Fin cfg0.N) (xo : Vec Ideal S4x8x224 .f32) (n : Fin 4) (j : Fin 8) (x : Fin 224) :
    View.readAt (Elt Ideal) (ms0_9 t).view (Rect.unit (s := S4x8x224) ![0, 0, 0] S4x8x224.size inb_S4x8x224_S4x8x224_0_0_0).toLoadRect
      ((hs0_9 t).unread xo) (ix3 n j x) = xo (ix3 n j x) := by
  rw [View.readAt_eq_ld, (hs0_9 t).read_unread]
  exact View.ld_unit_apply_of _ _ _ _ _ (ix3 n j x) fun a => by fin_cases a <;> simp
theorem cntB (c : Dev nD) (t : Fin cfg0.N) (h) (xo7 : Vec Ideal S2x96x224 .f32) (xo9 : Vec Ideal S4x8x224 .f32) (n : Fin 4) (j : Fin 8) (x : Fin 224) :
    (oB V c t h xo7 xo9).2.2.1 (ix3 n j x) = xo9 (ix3 n j x) + cntTerm V c t n j x := by
  unfold oB; dsimp only
  rw [View.read_writes_junk_eq_canon]
  refine (congrFun (View.canon_cons_unit_lit _ _ _ fun a => by fin_cases a <;> rfl) _).trans ((cnt_apply V c t _ n j x).trans ?_)
  rw [cntL]
theorem cntC (c : Dev nD) (t : Fin cfg0.N) (h) (xo7 : Vec Ideal S2x96x224 .f32) (xo8) (xo9 : Vec Ideal S4x8x224 .f32) (n : Fin 4) (j : Fin 8) (x : Fin 224) :
    (oC V c t h xo7 xo8 xo9).2.2.1 (ix3 n j x) = xo9 (ix3 n j x) + cntTerm V c t n j x := by
  unfold oC; dsimp only
  rw [View.read_writes_junk_eq_canon]
  refine (congrFun (View.canon_cons_unit_lit _ _ _ fun a => by fin_cases a <;> rfl) _).trans ((cnt_apply V c t _ n j x).trans ?_)
  rw [cntL]
theorem cntD (c : Dev nD) (t : Fin cfg0.N) (h) (xo7 : Vec Ideal S2x96x224 .f32) (xo8) (xo9 : Vec Ideal S4x8x224 .f32) (n : Fin 4) (j : Fin 8) (x : Fin 224) :
    (oD V c t h xo7 xo8 xo9).2.2.1 (ix3 n j x) = xo9 (ix3 n j x) + cntTerm V c t n j x := by
  unfold oD; dsimp only
  rw [View.read_writes_junk_eq_canon]
  refine (congrFun (View.canon_cons_unit_lit _ _ _ fun a => by fin_cases a <;> rfl) _).trans ((cnt_apply V c t _ n j x).trans ?_)
  rw [cntL]

theorem cnt_first (c : Dev nD) (t : Fin cfg0.N) (h : t.val % 16 = 0) (n : Fin 4) (j : Fin 8) (x : Fin 224) :
    (outs0 V c t.val t.isLt).2.2.1 (ix3 n j x) = 0 + cntTerm V c t n j x := by
  have h0 : t.val = 0 := by have := lt16 t; omega
  rw [outs0_A V c t h0]; exact cntA V c t h0 n j x
theorem cnt_step (c : Dev nD) (t : Fin cfg0.N) (h : ¬t.val % 16 = 0) (n : Fin 4) (j : Fin 8) (x : Fin 224) :
    (outs0 V c t.val t.isLt).2.2.1 (ix3 n j x) = (prev0 V c t).2.2.1 (ix3 n j x) + cntTerm V c t n j x := by
  by_cases hD : t.val = 15
  · rw [outs0_D V c t hD]; exact cntD V c t hD _ _ _ n j x
  · by_cases hB : t.val % 4 = 0
    · have hB' : t.val % 4 = 0 ∧ t.val ≠ 0 := ⟨hB, by omega⟩
      rw [outs0_B V c t hB']; exact cntB V c t hB' _ _ n j x
    · rw [outs0_C V c t ⟨hB, hD⟩]; exact cntC V c t ⟨hB, hD⟩ _ _ _ n j x

/-- The counts after the last point. -/
theorem cnt_last (c : Dev nD) (n : Fin 4) (j : Fin 8) (x : Fin 224) :
    (outs0 V c last0.val last0.isLt).2.2.1 (ix3 n j x) = ∑ h : Fin 224, above (V c main_arg1 (ix4 n j h x)) := by
  have := Pipeline.eq_sum_fin_of_reset_step_last (fun i hi => (outs0 V c i hi).2.2.1 (ix3 n j x)) 16 0 (fun t => cntTerm V c t n j x)
    (fun t h => cnt_first V c t h n j x) (fun t h => cnt_step V c t h n j x) (by rw [show cfg0.N = 16 from N_0]) last0 (show 15 + 1 = cfg0.N from N_0.symm)
  rw [zero_add] at this
  refine this.trans ?_
  unfold cntTerm
  refine (sum_points fun n' h => if n' = n then above (V c main_arg1 (ix4 n' j h x)) else 0).trans ?_
  rw [Finset.sum_eq_single n]
  · simp
  · intro b _ hb; simp [hb]
  · intro h; exact absurd (Finset.mem_univ _) h

end Cert.KernelIdeal.Hand
-- ==== Proof.PreG.lean ====
module

public import proofs.«01_k».proof.Proof.PreIdx

/- The first call's table of coefficients: at the last point, for every region the style row it uses, put through the
   region's layer, and the eight results times the packed convolution weights. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

/-! ## One region's layer -/

theorem st_slices (j : ℕ) (hj : j < 9) : S4x9x256.Slices ![0, j, 0] S4x1x256 := ⟨rfl, fun a => by fin_cases a <;> simp <;> omega⟩
theorem ar_slices (j : ℕ) (hj : j < 8) : S4x8.Slices ![0, j] S4x1 := ⟨rfl, fun a => by fin_cases a <;> simp <;> omega⟩

/-- What region `j`'s layer is given: the region's style row or the last row if the region has pixels, else the mean. -/
def midV (st : Vec Ideal S4x9x256 .f32) (mean : FVec Ideal S4x256 .f32) (ar : FVec Ideal S4x8 .f32) (mc : Vec Ideal S4x1 .i32) (j : Fin 8) : FVec Ideal S4x256 .f32 :=
  have code : IVec S4x1 1 := cmpi .eq mc (broadcast S4x1 1#32)
  have own : FVec Ideal S4x256 .f32 := shapeCast S4x256 (extractStridedSlice S4x1x256 ![0, j.val, 0] st (st_slices _ (by omega))) shapeCasts_S4x1x256_S4x256
  have last : FVec Ideal S4x256 .f32 := shapeCast S4x256 (extractStridedSlice S4x1x256 ![0, 8, 0] st slices_S4x9x256_o0_8_0_S4x1x256) shapeCasts_S4x1x256_S4x256
  have row : FVec Ideal S4x256 .f32 := select (broadcastTo S4x256 (shapeCast S4x1 code shapeCasts_S4x1_S4x1) broadcasts_S4x1_S4x256) own last
  have some : IVec S4x1 1 := cmpf .ogt (extractStridedSlice S4x1 ![0, j.val] ar (ar_slices _ (by omega))) (broadcast S4x1 (Scalar.ofBits .f32 0x00000000#32))
  select (broadcastTo S4x256 (shapeCast S4x1 some shapeCasts_S4x1_S4x1) broadcasts_S4x1_S4x256) row mean

/-- The layer: weights, bias, and the maximum with zero. -/
def layerV (m : FVec Ideal S4x256 .f32) (w : Vec Ideal S1x256x256 .f32) (b : Vec Ideal S1x256 .f32) : FVec Ideal S4x256 .f32 :=
  have w' : FVec Ideal S256x256 .f32 := shapeCast S256x256 w shapeCasts_S1x256x256_S256x256
  have p : FVec Ideal S4x256 .f32 := matmul dot_S4x256_S256x256_S4x256_1_0_0_1_n_n none m w' (constant S4x256 .f32 0x00000000#32)
  maximumf (addf p (broadcastTo S4x256 b broadcasts_S1x256_S4x256)) (broadcast S4x256 (Scalar.ofBits .f32 0x00000000#32))

/-- A region's row, at an element. -/
def midN (st : Fin 9 → Fin 256 → EReal) (cnt : EReal) (mc : BitVec 32) (j : Fin 8) (i : Fin 256) : EReal :=
  if 0 < cnt then (if mc = 1#32 then st ⟨j, by omega⟩ i else st 8 i) else Ideal.div (∑ k : Fin 9, st k i) (Ideal.ofBits FTy.f32 0x41100000#32)

theorem midV_apply (st : Vec Ideal S4x9x256 .f32) (cv : Vec Ideal S4x8x224 .f32) (mc : Vec Ideal S4x1 .i32) (j : Fin 8) (n : Fin 4) (i : Fin 256) :
    midV st (k0_pay3 st) (k0_pay4 cv) mc j (ix2 n i) = midN (fun k i => st (ix3 n k i)) (∑ x : Fin 224, cv (ix3 n j x)) (mc (ix2 n 0)) j i := by
  unfold midN
  pointwise [midV, k0_pay3, k0_pay4]
  congr 1
  by_cases h : mc (ix2 n 0) = 1#32
  · rw [h]; rfl
  · rw [if_neg h]
    have h' : (mc (ix2 n 0) == 1#32) = false := beq_eq_false_iff_ne.mpr h
    show (if BitVec.ofBool (mc (ix2 n 0) == 1#32) = 1#1 then _ else _) = _
    rw [h', if_neg (by decide)]

theorem layerV_apply (m : FVec Ideal S4x256 .f32) (w : Vec Ideal S1x256x256 .f32) (b : Vec Ideal S1x256 .f32) (n : Fin 4) (s : Fin 256) :
    layerV m w b (ix2 n s) = max ((∑ i : Fin 256, m (ix2 n i) * w (ix3 0 i s)) + b (ix2 0 s)) 0 := by
  pointwise [layerV]

/-! ## The last point's table -/

theorem mc_inb (j : Fin 8) : ∀ a, (![0, j.val] : Fin 2 → ℕ) a + S4x1.size a ≤ S4x8.size a := fun a => by fin_cases a <;> simp <;> omega
theorem fcw_inb (j : Fin 8) : ∀ a, (![j.val, 0, 0] : Fin 3 → ℕ) a + S1x256x256.size a ≤ S8x256x256.size a := fun a => by fin_cases a <;> simp <;> omega
theorem fcb_inb (j : Fin 8) : ∀ a, (![j.val, 0] : Fin 2 → ℕ) a + S1x256.size a ≤ S8x256.size a := fun a => by fin_cases a <;> simp <;> omega

def stL (c : Dev nD) (t : Fin cfg0.N) : Vec Ideal S4x9x256 .f32 :=
  View.readAt (Elt Ideal) (ms0_2 t).view (Rect.unit (s := S4x9x256) ![0, 0, 0] S4x9x256.size inb_S4x9x256_S4x9x256_0_0_0).toLoadRect ((hs0_2 t).unread (iblk0 V c 2 t))
def mcL (c : Dev nD) (t : Fin cfg0.N) (j : Fin 8) : Vec Ideal S4x1 .i32 :=
  View.readAt (Elt Ideal) (ms0_3 t).view (Rect.unit (s := S4x8) ![0, j.val] S4x1.size (mc_inb j)).toLoadRect ((hs0_3 t).unread (iblk0 V c 3 t))
def fcwL (c : Dev nD) (t : Fin cfg0.N) (j : Fin 8) : Vec Ideal S1x256x256 .f32 :=
  View.readAt (Elt Ideal) (ms0_4 t).view (Rect.unit (s := S8x256x256) ![j.val, 0, 0] S1x256x256.size (fcw_inb j)).toLoadRect ((hs0_4 t).unread (iblk0 V c 4 t))
def fcbL (c : Dev nD) (t : Fin cfg0.N) (j : Fin 8) : Vec Ideal S1x256 .f32 :=
  View.readAt (Elt Ideal) (ms0_5 t).view (Rect.unit (s := S8x256) ![j.val, 0] S1x256.size (fcb_inb j)).toLoadRect ((hs0_5 t).unread (iblk0 V c 5 t))
def w2L (c : Dev nD) (t : Fin cfg0.N) : Vec Ideal S256x1728 .f32 :=
  View.readAt (Elt Ideal) (ms0_6 t).view (Rect.unit (s := S256x1728) ![0, 0] S256x1728.size inb_S256x1728_S256x1728_0_0).toLoadRect ((hs0_6 t).unread (iblk0 V c 6 t))

theorem stL_apply (c : Dev nD) (t : Fin cfg0.N) (n : Fin 4) (k : Fin 9) (i : Fin 256) : stL V c t (ix3 n k i) = V c main_arg2 (ix3 n k i) := by
  unfold stL
  rw [View.readAt_eq_ld, (hs0_2 t).read_unread]
  exact (View.ld_unit_apply_of _ _ _ _ _ (ix3 n k i) fun a => by fin_cases a <;> simp).trans (by blk_ext [iblk0, idx0 t])
theorem mcL_apply (c : Dev nD) (t : Fin cfg0.N) (j : Fin 8) (n : Fin 4) : mcL V c t j (ix2 n 0) = V c main_arg3 (ix2 n j) := by
  unfold mcL
  rw [View.readAt_eq_ld, (hs0_3 t).read_unread]
  exact (View.ld_unit_apply_of _ _ _ _ _ (ix2 n j) fun a => by fin_cases a <;> simp).trans (by blk_ext [iblk0, idx0 t])
theorem fcwL_apply (c : Dev nD) (t : Fin cfg0.N) (j : Fin 8) (i s : Fin 256) : fcwL V c t j (ix3 0 i s) = V c main_v6 (ix3 j i s) := by
  unfold fcwL
  rw [View.readAt_eq_ld, (hs0_4 t).read_unread]
  exact (View.ld_unit_apply_of _ _ _ _ _ (ix3 j i s) fun a => by fin_cases a <;> simp).trans (by blk_ext [iblk0, idx0 t])
theorem fcbL_apply (c : Dev nD) (t : Fin cfg0.N) (j : Fin 8) (s : Fin 256) : fcbL V c t j (ix2 0 s) = V c main_arg11 (ix2 j s) := by
  unfold fcbL
  rw [View.readAt_eq_ld, (hs0_5 t).read_unread]
  exact (View.ld_unit_apply_of _ _ _ _ _ (ix2 j s) fun a => by fin_cases a <;> simp).trans (by blk_ext [iblk0, idx0 t])
theorem w2L_apply (c : Dev nD) (t : Fin cfg0.N) (s : Fin 256) (q : Fin 1728) : w2L V c t (ix2 s q) = V c main_v5 (ix2 s q) := by
  unfold w2L
  rw [View.readAt_eq_ld, (hs0_6 t).read_unread]
  exact (View.ld_unit_apply_of _ _ _ _ _ (ix2 s q) fun a => by fin_cases a <;> simp).trans (by blk_ext [iblk0, idx0 t])

/-- Region `j`'s vector at the last point, over the counts read back. -/
def muP (c : Dev nD) (t : Fin cfg0.N) (cv : Vec Ideal S4x8x224 .f32) (j : Fin 8) : FVec Ideal S4x256 .f32 :=
  layerV (midV (stL V c t) (k0_pay3 (stL V c t)) (k0_pay4 cv) (mcL V c t j) j) (fcwL V c t j) (fcbL V c t j)

/-- The table. -/
def tabV (c : Dev nD) (t : Fin cfg0.N) (cv : Vec Ideal S4x8x224 .f32) : FVec Ideal S32x1728 .f32 :=
  have w' : FVec Ideal S256x1728 .f32 := shapeCast S256x1728 (w2L V c t) shapeCasts_S256x1728_S256x1728
  have m : FVec Ideal S32x256 .f32 :=
    concatenate S32x256 0 [⟨S4x256, muP V c t cv 0⟩, ⟨S4x256, muP V c t cv 1⟩, ⟨S4x256, muP V c t cv 2⟩, ⟨S4x256, muP V c t cv 3⟩,
      ⟨S4x256, muP V c t cv 4⟩, ⟨S4x256, muP V c t cv 5⟩, ⟨S4x256, muP V c t cv 6⟩, ⟨S4x256, muP V c t cv 7⟩]
      concatenates_S4x256_S4x256_S4x256_S4x256_S4x256_S4x256_S4x256_S4x256_S32x256_d0
  matmul dot_S32x256_S256x1728_S32x1728_1_0_0_1_n_n none m w' (constant S32x1728 .f32 0x00000000#32)

/-- A region's vector, at an element. -/
def muN (st : Fin 9 → Fin 256 → EReal) (cnt : EReal) (mc : BitVec 32) (w : Fin 256 → Fin 256 → EReal) (b : Fin 256 → EReal) (j : Fin 8) (s : Fin 256) : EReal :=
  max ((∑ i : Fin 256, midN st cnt mc j i * w i s) + b s) 0

theorem muP_apply (c : Dev nD) (t : Fin cfg0.N) (cv : Vec Ideal S4x8x224 .f32) (j : Fin 8) (n : Fin 4) (s : Fin 256) :
    muP V c t cv j (ix2 n s) = muN (fun k i => V c main_arg2 (ix3 n k i)) (∑ x : Fin 224, cv (ix3 n j x)) (V c main_arg3 (ix2 n j))
      (fun i s => V c main_v6 (ix3 j i s)) (fun s => V c main_arg11 (ix2 j s)) j s := by
  unfold muP muN
  rw [layerV_apply, fcbL_apply]
  congr 2
  refine Finset.sum_congr rfl fun i _ => ?_
  rw [midV_apply, fcwL_apply, mcL_apply]
  simp only [stL_apply]

theorem tabV_apply (c : Dev nD) (t : Fin cfg0.N) (cv : Vec Ideal S4x8x224 .f32) (j : Fin 8) (n : Fin 4) (q : Fin 1728) :
    tabV V c t cv (ix2 ⟨4 * j.val + n.val, by omega⟩ q) = ∑ s : Fin 256, muP V c t cv j (ix2 n s) * w2L V c t (ix2 s q) := by
  pointwise [tabV]
  refine Finset.sum_congr rfl fun s _ => ?_
  congr 1
  obtain ⟨j, hj⟩ := j
  have hn := n.isLt
  interval_cases j <;> dsimp only <;>
    (repeat first | rw [dif_pos (by omega)] | rw [dif_neg (by omega)]) <;>
    exact congrArg (fun a => muP V c t cv _ (ix2 a s)) (Fin.ext (by dsimp only; omega))

/-- The counts as the last point reads them back. -/
def cntBack (c : Dev nD) (t : Fin cfg0.N) (xo9 : Vec Ideal S4x8x224 .f32) : Vec Ideal S4x8x224 .f32 :=
  run0_D.sl.v92 c (grid0.coords t) (ms0_1 t) (hs0_1 t) (ms0_9 t) (hs0_9 t) (iblk0 V c 1 t) xo9

theorem tab_eq (c : Dev nD) (t : Fin cfg0.N) (h) (xo7 : Vec Ideal S2x96x224 .f32) (xo8) (xo9 : Vec Ideal S4x8x224 .f32) (i) :
    (oD V c t h xo7 xo8 xo9).2.2.2 i = tabV V c t (cntBack V c t xo9) i := by
  unfold oD; dsimp only
  rw [View.read_writes_junk_eq_canon]
  refine (congrFun (View.canon_cons_unit_lit _ _ _ fun a => by fin_cases a <;> rfl) _).trans ?_
  rfl

theorem cntBack_apply (c : Dev nD) (t : Fin cfg0.N) (h) (xo7 : Vec Ideal S2x96x224 .f32) (xo8) (xo9 : Vec Ideal S4x8x224 .f32) (n : Fin 4) (j : Fin 8) (x : Fin 224) :
    cntBack V c t xo9 (ix3 n j x) = (oD V c t h xo7 xo8 xo9).2.2.1 (ix3 n j x) := by
  unfold oD; dsimp only
  rw [View.read_writes_junk_eq_canon]
  refine Eq.trans ?_ (congrFun (View.canon_cons_unit_lit _ _ _ fun a => by fin_cases a <;> rfl) _).symm
  unfold cntBack run0_D.sl.v92 run0_D.sl.H9_1
  rw [View.readCov_fill _ _ _ _ _ fun a => by fin_cases a <;> rfl]
  exact View.ld_unit_apply_of _ _ _ _ _ (ix3 n j x) fun a => by fin_cases a <;> simp

/-- The table, from a count for every region and image. -/
def tabN (ST : FVec Ideal S4x9x256 .f32) (MC : IVec S4x8 32) (FT : FVec Ideal S8x256x256 .f32) (FB : FVec Ideal S8x256 .f32) (W2 : FVec Ideal S256x1728 .f32)
    (cnt : Fin 4 → Fin 8 → EReal) (j : Fin 8) (n : Fin 4) (q : Fin 1728) : EReal :=
  ∑ s : Fin 256, muN (fun k i => ST (ix3 n k i)) (cnt n j) (MC (ix2 n j)) (fun i s => FT (ix3 j i s)) (fun s => FB (ix2 j s)) j s * W2 (ix2 s q)

theorem tab_read (c : Dev nD) (t : Fin cfg0.N) (xo9 : Vec Ideal S4x8x224 .f32) (j : Fin 8) (n : Fin 4) (q : Fin 1728) :
    (tabV V c t (cntBack V c t xo9)) (ix2 ⟨4 * j.val + n.val, by omega⟩ q)
      = tabN (V c main_arg2) (V c main_arg3) (V c main_v6) (V c main_arg11) (V c main_v5)
          (fun n j => ∑ x : Fin 224, cntBack V c t xo9 (ix3 n j x)) j n q := by
  rw [tabV_apply]
  unfold tabN
  refine Finset.sum_congr rfl fun s _ => ?_
  rw [muP_apply, w2L_apply]

theorem tab_last (c : Dev nD) (t : Fin cfg0.N) (h : t.val = 15) (i : S32x1728.Idx) :
    (outs0 V c t.val t.isLt).2.2.2 i = tabV V c t (cntBack V c t (prev0 V c t).2.2.1) i :=
  (congrFun (congrArg (fun o => o.2.2.2) (outs0_D V c t h)) i).trans (tab_eq V c t h _ _ _ i)

theorem back_last (c : Dev nD) (t : Fin cfg0.N) (h : t.val = 15) (i : S4x8x224.Idx) :
    cntBack V c t (prev0 V c t).2.2.1 i = (outs0 V c t.val t.isLt).2.2.1 i := by
  refine Eq.trans ?_ (congrFun (congrArg (fun o => o.2.2.1) (outs0_D V c t h)) i).symm
  rw [eq_ix3 i]
  exact cntBack_apply V c t h _ _ _ _ _ _

/-- The table the first call writes out. -/
theorem arr0_10 (c : Dev nD) (j : Fin 8) (n : Fin 4) (q : Fin 1728) :
    (dat0 V c).arrAt 10 cfg0.N (ix2 ⟨4 * j.val + n.val, by omega⟩ q)
      = tabN (V c main_arg2) (V c main_arg3) (V c main_v6) (V c main_arg11) (V c main_v5)
          (fun n j => ∑ x : Fin 224, ∑ h : Fin 224, above (V c main_arg1 (ix4 n j h x))) j n q := by
  have key := (dat0 V c).arrAt_eq_of_after_last 10 last0 (by decide +kernel) (outs0 V c last0.val last0.isLt).2.2.2 fun i => by
    blk_simp; rw [after0_10]
  have cnt : (fun (n : Fin 4) (j : Fin 8) => ∑ x : Fin 224, cntBack V c last0 (prev0 V c last0).2.2.1 (ix3 n j x))
      = fun n j => ∑ x : Fin 224, ∑ h : Fin 224, above (V c main_arg1 (ix4 n j h x)) :=
    funext fun n => funext fun j => Finset.sum_congr rfl fun x _ => (back_last V c last0 rfl (ix3 n j x)).trans (cnt_last V c n j x)
  exact (congrFun key _).trans ((tab_last V c last0 rfl _).trans ((tab_read V c last0 _ j n q).trans (by rw [cnt])))

end Cert.KernelIdeal.Hand
-- ==== Proof.MainArr.lean ====
module

public import proofs.«01_k».proof.Proof.MainVal
public import Idealize.ShloMosaic.Lib.Pipeline.ReadBack

/- The second call's result array, element by element, from the arrays the call is launched over. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- The index maps of the second call's windows, at a point. -/
theorem idx1 : ∀ t : Fin cfg1.N,
    win1_0.index t = ![(grid1.coords t 0).val, 0, (grid1.coords t 1).val, 0]
    ∧ win1_1.index t = ![(grid1.coords t 0).val, 0, 0] ∧ win1_2.index t = ![(grid1.coords t 0).val, 0, 0]
    ∧ win1_3.index t = ![0, 0, 0] ∧ win1_4.index t = ![0, 0] ∧ win1_5.index t = ![0, 0] ∧ win1_6.index t = ![0, 0] ∧ win1_7.index t = ![0, 0]
    ∧ win1_8.index t = ![(grid1.coords t 0).val, 0, (grid1.coords t 1).val, 0] :=
  (by decide +kernel : ∀ t : Fin grid1.N, _)

theorem off1 : ∀ t : Fin cfg1.N, k1_off1 (grid1.coords t) = ![0, 56 * (grid1.coords t 1).val, 0] :=
  (by decide +kernel : ∀ t : Fin grid1.N, _)

/-- The block of the output at an index, over the loads. -/
theorem outs1_apply (c : Dev nD) (t : Fin cfg1.N) (o : Fin 96) (r : Fin 56) (x : Fin 224) :
    outs1 V c t (ix4 0 o r x)
      = fpRow V c t r (ix4 0 o 0 x) * pairSum (coefL V c t) (idxL V c t) (r.val / 2) (by omega) ⟨96 * (2 * (r.val % 2)) + o.val, by omega⟩ x
        + pairSum (coefL V c t) (idxL V c t) (r.val / 2) (by omega) ⟨96 * (2 * (r.val % 2) + 1) + o.val, by omega⟩ x := by
  unfold outs1
  rw [View.read_writes_junk_eq_canon]
  refine View.canon_eq_of_allAt _ _ _ (covM V c t _) ?_
  rw [rM_pieces]
  intro p hp y hy
  obtain ⟨r', -, rfl⟩ := List.mem_map.mp hp
  have e : ∀ a : Fin 4, ((ix4 0 o r x : S1x96x56x224.Idx) a : ℕ) = (![0, 0, (r' : ℕ), 0] : Fin 4 → ℕ) a + (y a : ℕ) := fun a => by
    rw [← hy]; exact ValueKit.rect_emb_unit_val _ _ (row_inb r') y a
  have y0 : (y 0 : ℕ) < 1 := (y 0).isLt
  have y2 : (y 2 : ℕ) < 1 := (y 2).isLt
  have e1 := e 1; have e2 := e 2; have e3 := e 3
  simp only [Matrix.cons_val] at e1 e2 e3
  have er : r = r' := Fin.ext (by show (r : ℕ) = r'; have : (r : ℕ) = r' + (y 2 : ℕ) := e2; omega)
  subst er
  have ey : y = (ix4 0 o 0 x : S1x96x1x224.Idx) := by
    funext a
    apply Fin.ext
    fin_cases a
    · show (y 0 : ℕ) = 0; omega
    · show (y 1 : ℕ) = o; have : (o : ℕ) = 0 + (y 1 : ℕ) := e1; omega
    · show (y 2 : ℕ) = 0; omega
    · show (y 3 : ℕ) = x; have : (x : ℕ) = 0 + (y 3 : ℕ) := e3; omega
  subst ey
  exact rowOut_apply _ _ _ _ _ _

theorem fpRow_apply (c : Dev nD) (t : Fin cfg1.N) (r : Fin 56) (o : Fin 96) (x : Fin 224) :
    fpRow V c t r (ix4 0 o 0 x) = iblk1 V c 0 t (ix4 0 o r x) := by
  unfold fpRow
  rw [View.readAt_eq_ld, (hs1_0 t).read_unread]
  exact View.ld_unit_apply_of _ _ _ _ _ _ fun a => by fin_cases a <;> simp

theorem s0L_apply (c : Dev nD) (t : Fin cfg1.N) (o : Fin 96) (x : Fin 224) : s0L V c t (ix3 0 o x) = V c main_v7_0 (ix3 0 o x) := by
  unfold s0L
  rw [View.readAt_eq_ld, (hs1_3 t).read_unread]
  refine (View.ld_unit_apply_of _ _ _ _ _ (ix3 0 o x) fun a => by fin_cases a <;> simp).trans ?_
  blk_ext [iblk1, idx1 t]

theorem s1L_apply (c : Dev nD) (t : Fin cfg1.N) (o : Fin 96) (x : Fin 224) : s1L V c t (ix3 0 o x) = V c main_v7_0 (ix3 1 o x) := by
  unfold s1L
  rw [View.readAt_eq_ld, (hs1_3 t).read_unread]
  refine (View.ld_unit_apply_of _ _ _ _ _ (ix3 1 o x) fun a => by fin_cases a <;> simp).trans ?_
  blk_ext [iblk1, idx1 t]

theorem bigL_apply (c : Dev nD) (t : Fin cfg1.N) (q : Fin 384) (l : Fin 128) :
    bigL V c t (ix3 0 q l) = V c main_v16 (ix3 ⟨(grid1.coords t 0).val, (grid1.coords t 0).isLt⟩ q l) := by
  unfold bigL
  rw [View.readAt_eq_ld, (hs1_2 t).read_unread]
  refine (View.ld_unit_apply_of _ _ _ _ _ (ix3 0 q l) fun a => by fin_cases a <;> simp).trans ?_
  blk_ext [iblk1, idx1 t]

theorem wL_apply (c : Dev nD) (t : Fin cfg1.N) (o : Fin 96) : wL V c t (ix2 o 0) = V c main_v17 (ix2 o 0) := by
  unfold wL
  rw [View.readAt_eq_ld, (hs1_4 t).read_unread]
  refine (View.ld_unit_apply_of _ _ _ _ _ (ix2 o 0) fun a => by fin_cases a <;> simp).trans ?_
  blk_ext [iblk1, idx1 t]

theorem bL_apply (c : Dev nD) (t : Fin cfg1.N) (o : Fin 96) : bL V c t (ix2 o 0) = V c main_v18 (ix2 o 0) := by
  unfold bL
  rw [View.readAt_eq_ld, (hs1_5 t).read_unread]
  refine (View.ld_unit_apply_of _ _ _ _ _ (ix2 o 0) fun a => by fin_cases a <;> simp).trans ?_
  blk_ext [iblk1, idx1 t]

theorem gbL_apply (c : Dev nD) (t : Fin cfg1.N) (o : Fin 96) : gbL V c t (ix2 o 0) = V c main_v19 (ix2 o 0) := by
  unfold gbL
  rw [View.readAt_eq_ld, (hs1_6 t).read_unread]
  refine (View.ld_unit_apply_of _ _ _ _ _ (ix2 o 0) fun a => by fin_cases a <;> simp).trans ?_
  blk_ext [iblk1, idx1 t]

theorem bbL_apply (c : Dev nD) (t : Fin cfg1.N) (o : Fin 96) : bbL V c t (ix2 o 0) = V c main_v20 (ix2 o 0) := by
  unfold bbL
  rw [View.readAt_eq_ld, (hs1_7 t).read_unread]
  refine (View.ld_unit_apply_of _ _ _ _ _ (ix2 o 0) fun a => by fin_cases a <;> simp).trans ?_
  blk_ext [iblk1, idx1 t]

/-- The row of the padded index that block row `p` of a point is. -/
def idxRow (t : Fin cfg1.N) (p : Fin 72) : Fin 240 :=
  ⟨56 * (grid1.coords t 1).val + p.val, by have : (grid1.coords t 1).val < 4 := (grid1.coords t 1).isLt; omega⟩

theorem idxL_apply (c : Dev nD) (t : Fin cfg1.N) (p : Fin 72) (y : Fin 384) :
    idxL V c t (ix2 p y) = V c main_v7_1 (ix3 ⟨(grid1.coords t 0).val, (grid1.coords t 0).isLt⟩
      (idxRow t p) y) := by
  unfold idxL
  pointwise [k1_pay20]
  rw [View.readAt_eq_ld, (hs1_1 t).read_unread]
  refine (View.ld_unit_apply_of _ _ _ _ _ (ix3 0 (idxRow t p) y)
    fun a => by have ho := congrFun (off1 t) a; fin_cases a <;> simp_all [idxRow]).trans ?_
  blk_ext [iblk1, idx1 t]

/- The same quantities over the whole arrays: `S` the two rows of sums, `big` the coefficients, `I` the padded index. -/
section Whole
variable (FP : FVec Ideal S4x96x224x224 .f32) (I : IVec S4x240x384 32) (big : FVec Ideal S4x384x128 .f32) (S : FVec Ideal S2x96x224 .f32)
  (w b gb bb : FVec Ideal S96x1 .f32)

def meanN (o : Fin 96) : EReal := Ideal.div (∑ x : Fin 224, S (ix3 0 o x)) (Ideal.ofBits FTy.f32 0x48440000#32)
def scaleN (o : Fin 96) : EReal :=
  w (ix2 o 0) * Ideal.rsqrt (Ideal.div (∑ x : Fin 224, S (ix3 1 o x)) (Ideal.ofBits FTy.f32 0x48440000#32)
    - meanN S o * meanN S o + Ideal.ofBits FTy.f32 0x3727C5AC#32)
def shiftN (o : Fin 96) : EReal := b (ix2 o 0) - meanN S o * scaleN S w o
def gamN (n : Fin 4) (k : Fin 2) (o : Fin 96) (l : Fin 128) : EReal :=
  big (ix3 n ⟨192 * k.val + o.val, by omega⟩ l) + biasLane k.val l * (1 + gb (ix2 o 0))
def betN (n : Fin 4) (k : Fin 2) (o : Fin 96) (l : Fin 128) : EReal :=
  big (ix3 n ⟨192 * k.val + 96 + o.val, by omega⟩ l) + biasLane k.val l * bb (ix2 o 0)

/-- The one-hot row: whether pixel `x` of padded row `q`, moved by the lane's column, has the lane's region. -/
def hotN (n : Fin 4) (q : Fin 240) (s : Fin 32) (x : Fin 224) : EReal :=
  if I (ix3 n q ⟨127 + min (s.val / 9) 2 + x.val, by omega⟩) = BitVec.ofNat 32 (s.val - 9 * (s.val / 9)) then 1 else 0

/-- Row `m` of the four index rows that the pair of output rows holding `h` reads. -/
def rowN (h : Fin 224) (m : Fin 4) : Fin 240 := ⟨h.val - h.val % 2 + m.val + 7, by omega⟩
def laneN (m : Fin 4) (s : Fin 32) : Fin 128 := ⟨32 * m.val + s.val, by omega⟩
def parN (h : Fin 224) : Fin 2 := ⟨h.val % 2, by omega⟩

def gamSum (n : Fin 4) (o : Fin 96) (h x : Fin 224) : EReal :=
  ∑ m : Fin 4, ∑ s : Fin 32, gamN big gb n (parN h) o (laneN m s) * scaleN S w o * hotN I n (rowN h m) s x
def betSum (n : Fin 4) (o : Fin 96) (h x : Fin 224) : EReal :=
  ∑ m : Fin 4, ∑ s : Fin 32, (betN big bb n (parN h) o (laneN m s) + shiftN S w b o * gamN big gb n (parN h) o (laneN m s)) * hotN I n (rowN h m) s x

/-- The second call's element. -/
def mainN (n : Fin 4) (o : Fin 96) (h x : Fin 224) : EReal :=
  FP (ix4 n o h x) * gamSum I big S w gb n o h x + betSum I big S w b gb bb n o h x

end Whole

theorem mean_whole (c : Dev nD) (t : Fin cfg1.N) (o : Fin 96) : meanK (s0L V c t) o = meanN (V c main_v7_0) o := by
  unfold meanK meanN; simp only [s0L_apply]
theorem scale_whole (c : Dev nD) (t : Fin cfg1.N) (o : Fin 96) :
    scaleK (s0L V c t) (s1L V c t) (wL V c t) o = scaleN (V c main_v7_0) (V c main_v17) o := by
  unfold scaleK scaleN; simp only [s1L_apply, wL_apply, mean_whole]
theorem shift_whole (c : Dev nD) (t : Fin cfg1.N) (o : Fin 96) :
    shiftK (s0L V c t) (s1L V c t) (wL V c t) (bL V c t) o = shiftN (V c main_v7_0) (V c main_v17) (V c main_v18) o := by
  unfold shiftK shiftN; simp only [bL_apply, mean_whole, scale_whole]

def imgN (t : Fin cfg1.N) : Fin 4 := ⟨(grid1.coords t 0).val, (grid1.coords t 0).isLt⟩
/-- The image row that row `r` of a point's block is. -/
def rowOf (t : Fin cfg1.N) (r : Fin 56) : Fin 224 :=
  ⟨56 * (grid1.coords t 1).val + r.val, by have : (grid1.coords t 1).val < 4 := (grid1.coords t 1).isLt; omega⟩

theorem gam_whole (c : Dev nD) (t : Fin cfg1.N) (k : Fin 2) (o : Fin 96) (l : Fin 128) :
    gamK (bigL V c t) (gbL V c t) k o l = gamN (V c main_v16) (V c main_v19) (imgN t) k o l := by
  unfold gamK gamN imgN; simp only [bigL_apply, gbL_apply]
theorem bet_whole (c : Dev nD) (t : Fin cfg1.N) (k : Fin 2) (o : Fin 96) (l : Fin 128) :
    betK (bigL V c t) (bbL V c t) k o l = betN (V c main_v16) (V c main_v20) (imgN t) k o l := by
  unfold betK betN imgN; simp only [bigL_apply, bbL_apply]

theorem hot_whole (c : Dev nD) (t : Fin cfg1.N) (r : Fin 56) (m : Fin 4) (s : Fin 32) (x : Fin 224) :
    hot (idxL V c t) (2 * (r.val / 2) + m.val) (by omega) s x = hotN (V c main_v7_1) (imgN t) (rowN (rowOf t r) m) s x := by
  have e : idxRow t ⟨2 * (r.val / 2) + m.val + 7, by omega⟩ = rowN (rowOf t r) m := by
    apply Fin.ext; simp only [idxRow, rowN, rowOf]; omega
  unfold hot hotN; simp only [idxL_apply, e]; rfl

theorem par_whole (t : Fin cfg1.N) (r : Fin 56) : parN (rowOf t r) = ⟨r.val % 2, by omega⟩ := by
  apply Fin.ext; simp only [parN, rowOf]; omega

/-- The block of the output, over the whole arrays. -/
theorem outs1_whole (c : Dev nD) (t : Fin cfg1.N) (o : Fin 96) (r : Fin 56) (x : Fin 224) :
    outs1 V c t (ix4 0 o r x)
      = mainN (V c main_arg0) (V c main_v7_1) (V c main_v16) (V c main_v7_0) (V c main_v17) (V c main_v18) (V c main_v19) (V c main_v20)
          (imgN t) o (rowOf t r) x := by
  rw [outs1_apply, fpRow_apply]
  have hx : iblk1 V c 0 t (ix4 0 o r x) = V c main_arg0 (ix4 (imgN t) o (rowOf t r) x) := by blk_ext [iblk1, idx1 t, imgN, rowOf]
  rw [hx]
  unfold mainN gamSum betSum pairSum coefL
  have hg : ∀ l : Fin 128, coef (bigL V c t) (s0L V c t) (s1L V c t) (wL V c t) (bL V c t) (gbL V c t) (bbL V c t) (ix2 ⟨96 * (2 * (r.val % 2)) + o.val, by omega⟩ l) = _ :=
    fun l => coef_gamma (bigL V c t) (s0L V c t) (s1L V c t) (wL V c t) (bL V c t) (gbL V c t) (bbL V c t) ⟨r.val % 2, by omega⟩ o l
  have hb : ∀ l : Fin 128, coef (bigL V c t) (s0L V c t) (s1L V c t) (wL V c t) (bL V c t) (gbL V c t) (bbL V c t) (ix2 ⟨96 * (2 * (r.val % 2) + 1) + o.val, by omega⟩ l) = _ :=
    fun l => coef_beta (bigL V c t) (s0L V c t) (s1L V c t) (wL V c t) (bL V c t) (gbL V c t) (bbL V c t) ⟨r.val % 2, by omega⟩ o l
  simp only [hg, hb, hot_whole, gam_whole, bet_whole, scale_whole, shift_whole, par_whole]
  rfl

/-- The second call's result array. -/
theorem arr1 (c : Dev nD) (n : Fin 4) (o : Fin 96) (h x : Fin 224) :
    (dat1 V c).arrAt 8 cfg1.N (ix4 n o h x)
      = mainN (V c main_arg0) (V c main_v7_1) (V c main_v16) (V c main_v7_0) (V c main_v17) (V c main_v18) (V c main_v19) (V c main_v20) n o h x := by
  have key := (dat1 V c).arrAt_eq_of_covers 8
    (fun i : S4x96x224x224.Idx => mainN (V c main_arg0) (V c main_v7_1) (V c main_v16) (V c main_v7_0) (V c main_v17) (V c main_v18) (V c main_v19) (V c main_v20)
      (i 0) (i 1) (i 2) (i 3)) (by decide +kernel) fun t hf y => by
    blk_simp
    rw [after1_8]
    have hy : ∀ i : S1x96x56x224.Idx, outs1 V c t i = outs1 V c t (ix4 0 (i 1) (i 2) (i 3)) := fun i => congrArg _ (by
      conv_lhs => rw [eq_ix4 i]
      exact congrArg (fun a => ix4 a (i 1) (i 2) (i 3)) (Subsingleton.elim (α := Fin 1) _ _))
    have he : ((win1_8.blk t).view.emb y : S4x96x224x224.Idx) = ix4 (imgN t) (y 1) (rowOf t (y 2)) (y 3) := by
      blk_ext [idx1 t, imgN, rowOf]
    rw [he]
    exact (hy y).trans (outs1_whole V c t (y 1) (y 2) (y 3))
  exact congrFun key (ix4 n o h x)

end Cert.KernelIdeal.Hand
-- ==== Proof.HostVal.lean ====
module

public import proofs.«01_k».proof.Proof.PreG
public import proofs.«01_k».proof.Proof.MainArr
public import proofs.«01_k».proof.Proof.Run

/- What the host operations around the two calls compute: the packed convolution weights, the layers' weights transposed,
   and the table of the first call laid out in lanes. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

/-! ## The functions -/

/-- The two convolutions' weights packed: one column per tap and output channel, gamma's channels before beta's. -/
def w2V (a b : FVec Ideal S96x256x3x3 .f32) : FVec Ideal S256x1728 .f32 :=
  have a' : FVec Ideal S256x9x96 .f32 := shapeCast S256x9x96 (transpose S256x3x3x96 [1, 2, 3, 0] a transposes_S96x256x3x3_S256x3x3x96_1_2_3_0) shapeCasts_S256x3x3x96_S256x9x96
  have b' : FVec Ideal S256x9x96 .f32 := shapeCast S256x9x96 (transpose S256x3x3x96 [1, 2, 3, 0] b transposes_S96x256x3x3_S256x3x3x96_1_2_3_0) shapeCasts_S256x3x3x96_S256x9x96
  shapeCast S256x1728 (concatenate S256x9x192 2 [⟨S256x9x96, a'⟩, ⟨S256x9x96, b'⟩] concatenates_S256x9x96_S256x9x96_S256x9x192_d2) shapeCasts_S256x9x192_S256x1728

/-- The column of tap `(dy, dx)` and channel `o`. -/
def colN (dy dx : Fin 3) (o : Fin 192) : Fin 1728 := ⟨(dy.val * 3 + dx.val) * 192 + o.val, by omega⟩

theorem w2V_gamma (a b : FVec Ideal S96x256x3x3 .f32) (s : Fin 256) (dy dx : Fin 3) (o : Fin 96) :
    w2V a b (ix2 s (colN dy dx ⟨o, by omega⟩)) = a (ix4 o s dy dx) := by
  unfold colN
  pointwise [w2V]
  rw [dif_pos (by omega)]
  exact congrArg (fun q => a (ix4 q s dy dx)) (Fin.ext (by first | omega | (dsimp only; omega)))
theorem w2V_beta (a b : FVec Ideal S96x256x3x3 .f32) (s : Fin 256) (dy dx : Fin 3) (o : Fin 96) :
    w2V a b (ix2 s (colN dy dx ⟨96 + o, by omega⟩)) = b (ix4 o s dy dx) := by
  unfold colN
  pointwise [w2V]
  rw [dif_neg (by omega)]
  exact congrArg (fun q => b (ix4 q s dy dx)) (Fin.ext (by first | omega | (dsimp only; omega)))

/-- The layers' weights, input before output. -/
def fcT (a : FVec Ideal S8x256x256 .f32) : FVec Ideal S8x256x256 .f32 := transpose S8x256x256 [0, 2, 1] a transposes_S8x256x256_S8x256x256_0_2_1
theorem fcT_apply (a : FVec Ideal S8x256x256 .f32) (j : Fin 8) (i s : Fin 256) : fcT a (ix3 j i s) = a (ix3 j s i) := by
  pointwise [fcT]

/-- A zero, as the paddings write it. -/
def padZ : FVec Ideal S_ .f32 := sitofp .f32 (constantI S_ 32 0#32)
theorem padZ_apply (i : S_.Idx) : padZ i = 0 := by
  show ((((0#32 : BitVec 32).toInt : ℝ)) : EReal) = 0
  simp

/-- The table in lanes: three groups of 32, nine lanes per tap of which the last is zero. -/
def lanesV (g : FVec Ideal S32x1728 .f32) : FVec Ideal S4x192x96 .f32 :=
  have v9 : FVec Ideal S4x192x9x8 .f32 := transpose S4x192x9x8 [1, 3, 2, 0] (shapeCast S8x4x9x192 g shapeCasts_S32x1728_S8x4x9x192) transposes_S8x4x9x192_S4x192x9x8_1_3_2_0
  have v10 : FVec Ideal S4x192x9x9 .f32 := pad S4x192x9x9 ![0, 0, 0, 0] ![0, 0, 0, 1] ![0, 0, 0, 0] v9 padZ pads_S4x192x9x8_S4x192x9x9_000_000_000_010 h_S_
  have v11 : FVec Ideal S4x192x3x27 .f32 := shapeCast S4x192x3x27 v10 shapeCasts_S4x192x9x9_S4x192x3x27
  have v12 : FVec Ideal S4x192x3x32 .f32 := pad S4x192x3x32 ![0, 0, 0, 0] ![0, 0, 0, 5] ![0, 0, 0, 0] v11 padZ pads_S4x192x3x27_S4x192x3x32_000_000_000_050 h_S_
  shapeCast S4x192x96 v12 shapeCasts_S4x192x3x32_S4x192x96

/-- The table's entry of lane `s` of row offset `dy`. -/
def laneG (g : FVec Ideal S32x1728 .f32) (n : Fin 4) (o : Fin 192) (dy : Fin 3) (s : Fin 32) : EReal :=
  if h : s.val < 27 ∧ s.val % 9 < 8 then g (ix2 ⟨4 * (s.val % 9) + n.val, by omega⟩ (colN dy ⟨s.val / 9, by omega⟩ o)) else 0

theorem laneG_pos (g : FVec Ideal S32x1728 .f32) (n : Fin 4) (o : Fin 192) (dy : Fin 3) (s : Fin 32) (h : s.val < 27 ∧ s.val % 9 < 8) :
    laneG g n o dy s = g (ix2 ⟨4 * (s.val % 9) + n.val, by omega⟩ (colN dy ⟨s.val / 9, by omega⟩ o)) := dif_pos h
theorem laneG_neg (g : FVec Ideal S32x1728 .f32) (n : Fin 4) (o : Fin 192) (dy : Fin 3) (s : Fin 32) (h : ¬(s.val < 27 ∧ s.val % 9 < 8)) :
    laneG g n o dy s = 0 := dif_neg h

theorem lanesV_apply (g : FVec Ideal S32x1728 .f32) (n : Fin 4) (o : Fin 192) (dy : Fin 3) (s : Fin 32) :
    lanesV g (ix3 n o ⟨32 * dy.val + s.val, by omega⟩) = laneG g n o dy s := by
  pointwise [lanesV]
  by_cases h : s.val < 27
  · by_cases h' : s.val % 9 < 8
    · have h2 : dy.val * 3 + s.val / 9 < 9 ∧ s.val % 9 < 8 := ⟨by omega, h'⟩
      have h3 : s.val < 27 ∧ s.val % 9 < 8 := ⟨h, h'⟩
      rw [dif_pos h, dif_pos h2]
      have e1 : (⟨s.val % 9 * 4 + n.val, by omega⟩ : Fin 32) = ⟨4 * (s.val % 9) + n.val, by omega⟩ := Fin.ext (by dsimp only; omega)
      have e2 : (⟨(dy.val * 3 + s.val / 9) * 192 + o.val, by omega⟩ : Fin 1728) = colN dy ⟨s.val / 9, by omega⟩ o := rfl
      exact (congrArg g (congrArg₂ ix2 e1 e2)).trans (laneG_pos g n o dy s h3).symm
    · have h2 : ¬(dy.val * 3 + s.val / 9 < 9 ∧ s.val % 9 < 8) := fun h => h' h.2
      have h3 : ¬(s.val < 27 ∧ s.val % 9 < 8) := fun h => h' h.2
      rw [dif_pos h, dif_neg h2, laneG_neg g n o dy s h3, padZ_apply]
  · have h3 : ¬(s.val < 27 ∧ s.val % 9 < 8) := fun h' => h h'.1
    rw [dif_neg h, laneG_neg g n o dy s h3, padZ_apply]

/-- The two placements of the lanes, one per row parity. -/
def bigV (g : FVec Ideal S32x1728 .f32) : FVec Ideal S4x384x128 .f32 :=
  concatenate S4x384x128 1
    [⟨S4x192x128, pad S4x192x128 ![0, 0, 0] ![0, 0, 32] ![0, 0, 0] (lanesV g) padZ pads_S4x192x96_S4x192x128_000_000_0320 h_S_⟩,
     ⟨S4x192x128, pad S4x192x128 ![0, 0, 32] ![0, 0, 0] ![0, 0, 0] (lanesV g) padZ pads_S4x192x96_S4x192x128_000_000_3200 h_S_⟩]
    concatenates_S4x192x128_S4x192x128_S4x384x128_d1

theorem bigV_apply (g : FVec Ideal S32x1728 .f32) (n : Fin 4) (k : Fin 2) (o : Fin 192) (m : Fin 4) (s : Fin 32) :
    bigV g (ix3 n ⟨192 * k.val + o.val, by omega⟩ ⟨32 * m.val + s.val, by omega⟩)
      = if h : k.val ≤ m.val ∧ m.val < k.val + 3 then laneG g n o ⟨m.val - k.val, by omega⟩ s else 0 := by
  have key : ∀ dy : Fin 3, ∀ p : Fin 96, p.val = 32 * dy.val + s.val → lanesV g (ix3 n o p) = laneG g n o dy s := fun dy p hp => by
    rw [← lanesV_apply]; exact congrArg _ (congrArg (ix3 n o) (Fin.ext hp))
  pointwise [bigV]
  obtain ⟨k, hk⟩ := k
  have hs := s.isLt
  have ho := o.isLt
  interval_cases k <;> dsimp only
  · rw [dif_pos (by omega)]
    by_cases h : m.val < 3
    · rw [dif_pos (by omega), dif_pos (by omega)]
      refine Eq.trans ?_ (key ⟨m.val - 0, by omega⟩ ⟨32 * m.val + s.val, by omega⟩ (by first | rfl | omega))
      exact congrArg _ (by congr 1; apply Fin.ext; first | omega | (dsimp only; omega))
    · rw [dif_neg (by omega), dif_neg (by first | omega | (dsimp only; omega)), padZ_apply]
  · rw [dif_neg (by omega)]
    by_cases h : 1 ≤ m.val
    · rw [dif_pos (by omega), dif_pos (by omega)]
      refine Eq.trans ?_ (key ⟨m.val - 1, by omega⟩ ⟨32 * m.val + s.val - 32, by omega⟩ (by first | omega | (dsimp only; omega)))
      exact congrArg _ (by congr 1; apply Fin.ext; first | omega | (dsimp only; omega))
    · rw [dif_neg (by omega), dif_neg (by first | omega | (dsimp only; omega)), padZ_apply]

/-! ## The program's buffers -/

variable (m : (ℓ : Loc nD τ sig) → Buf (Elt Ideal) ℓ) (ρ : Dev nD → PrngReg)

theorem v5_at (X : Valuation τ sig (Elt Ideal)) : (StableHlo.after hostOps0 X) (Proc.devRef .tc main_v5)
    = w2V (X (Proc.devRef .tc main_arg6)) (X (Proc.devRef .tc main_arg8)) := by
  after_results; rfl
theorem v6_at (X : Valuation τ sig (Elt Ideal)) : (StableHlo.after hostOps0 X) (Proc.devRef .tc main_v6) = fcT (X (Proc.devRef .tc main_arg10)) := by
  after_results; rfl

theorem V1_v5 (c : Dev nD) : V1 m ρ c main_v5 = w2V (m ((c : Thread nD τ).loc main_arg6)) (m ((c : Thread nD τ).loc main_arg8)) :=
  v5_at _
theorem V1_v6 (c : Dev nD) : V1 m ρ c main_v6 = fcT (m ((c : Thread nD τ).loc main_arg10)) := v6_at _

theorem lanes_at (c : Dev nD) : W7 m ρ c (Proc.devRef .tc main_v13) = lanesV (W2 m ρ c (Proc.devRef .tc main_v7_3)) := by
  after_results; rfl
theorem low_at (c : Dev nD) : W8 m ρ c (Proc.devRef .tc main_v14) = pad S4x192x128 ![0, 0, 0] ![0, 0, 32] ![0, 0, 0] (W7 m ρ c (Proc.devRef .tc main_v13)) padZ pads_S4x192x96_S4x192x128_000_000_0320 h_S_ := by
  after_results; rfl
theorem high_at (c : Dev nD) : W10 m ρ c (Proc.devRef .tc main_v15) = pad S4x192x128 ![0, 0, 32] ![0, 0, 0] ![0, 0, 0] (W7 m ρ c (Proc.devRef .tc main_v13)) padZ pads_S4x192x96_S4x192x128_000_000_3200 h_S_ := by
  after_results; rfl
theorem big_at (X : Valuation τ sig (Elt Ideal)) : (StableHlo.after hostOps1_8 X) (Proc.devRef .tc main_v16)
    = concatenate S4x384x128 1 [⟨S4x192x128, X (Proc.devRef .tc main_v14)⟩, ⟨S4x192x128, X (Proc.devRef .tc main_v15)⟩] concatenates_S4x192x128_S4x192x128_S4x384x128_d1 := by
  after_results

theorem V11_v16 (c : Dev nD) : V11 m ρ c main_v16 = bigV ((dat0 (V1 m ρ) c).arrAt 10 cfg0.N) := by
  have h14 : W10 m ρ c (Proc.devRef .tc main_v14) = W8 m ρ c (Proc.devRef .tc main_v14) :=
    (W10_of m ρ c main_v14 (by decide)).trans (W9_of m ρ c main_v14 (by decide))
  refine (big_at _).trans ?_
  rw [h14, low_at, high_at, lanes_at]
  exact congrArg bigV (W2_arr m ρ c 10)

theorem kept1 (c : Dev nD) (r : Ref sig .tc) (h1 : r ∉ hostOps1_W) (h2 : r ∉ hostOps1_1_W) (h3 : r ∉ hostOps1_2_W) (h4 : r ∉ hostOps1_3_W) (h5 : r ∉ hostOps1_4_W)
    (h6 : r ∉ hostOps1_5_W) (h7 : r ∉ hostOps1_6_W) (h8 : r ∉ hostOps1_7_W) (h9 : r ∉ hostOps1_8_W) : V11 m ρ c r = W2 m ρ c (Proc.devRef .tc r) :=
  (W11_of m ρ c r h9).trans ((W10_of m ρ c r h8).trans ((W9_of m ρ c r h7).trans ((W8_of m ρ c r h6).trans ((W7_of m ρ c r h5).trans
    ((W6_of m ρ c r h4).trans ((W5_of m ρ c r h3).trans ((W4_of m ρ c r h2).trans (W3_of m ρ c r h1))))))))

theorem V11_v7_0 (c : Dev nD) : V11 m ρ c main_v7_0 = (dat0 (V1 m ρ) c).arrAt 7 cfg0.N :=
  (kept1 m ρ c main_v7_0 (by decide) (by decide) (by decide) (by decide) (by decide) (by decide) (by decide) (by decide) (by decide)).trans (W2_arr m ρ c 7)
theorem V11_v7_1 (c : Dev nD) : V11 m ρ c main_v7_1 = (dat0 (V1 m ρ) c).arrAt 8 cfg0.N :=
  (kept1 m ρ c main_v7_1 (by decide) (by decide) (by decide) (by decide) (by decide) (by decide) (by decide) (by decide) (by decide)).trans (W2_arr m ρ c 8)

/-- A vector as a column. -/
def colV (v : FVec Ideal S96 .f32) : FVec Ideal S96x1 .f32 := shapeCast S96x1 v shapeCasts_S96_S96x1
theorem colV_apply (v : FVec Ideal S96 .f32) (o : Fin 96) : colV v (ix2 o 0) = v (ix1 o) := by
  pointwise [colV]

theorem v17_at (X : Valuation τ sig (Elt Ideal)) : (StableHlo.after hostOps1_8 X) (Proc.devRef .tc main_v17) = colV (X (Proc.devRef .tc main_arg4)) := by
  after_results; rfl
theorem v18_at (X : Valuation τ sig (Elt Ideal)) : (StableHlo.after hostOps1_8 X) (Proc.devRef .tc main_v18) = colV (X (Proc.devRef .tc main_arg5)) := by
  after_results; rfl
theorem v19_at (X : Valuation τ sig (Elt Ideal)) : (StableHlo.after hostOps1_8 X) (Proc.devRef .tc main_v19) = colV (X (Proc.devRef .tc main_arg7)) := by
  after_results; rfl
theorem v20_at (X : Valuation τ sig (Elt Ideal)) : (StableHlo.after hostOps1_8 X) (Proc.devRef .tc main_v20) = colV (X (Proc.devRef .tc main_arg9)) := by
  after_results; rfl
theorem V11_v17 (c : Dev nD) : V11 m ρ c main_v17 = colV (m ((c : Thread nD τ).loc main_arg4)) :=
  (v17_at _).trans (congrArg colV (W10_args m ρ c main_arg4 (by decide)))
theorem V11_v18 (c : Dev nD) : V11 m ρ c main_v18 = colV (m ((c : Thread nD τ).loc main_arg5)) :=
  (v18_at _).trans (congrArg colV (W10_args m ρ c main_arg5 (by decide)))
theorem V11_v19 (c : Dev nD) : V11 m ρ c main_v19 = colV (m ((c : Thread nD τ).loc main_arg7)) :=
  (v19_at _).trans (congrArg colV (W10_args m ρ c main_arg7 (by decide)))
theorem V11_v20 (c : Dev nD) : V11 m ρ c main_v20 = colV (m ((c : Thread nD τ).loc main_arg9)) :=
  (v20_at _).trans (congrArg colV (W10_args m ρ c main_arg9 (by decide)))

end Cert.KernelIdeal.Hand
-- ==== Proof.KerTaps.lean ====
module

public import proofs.«01_k».proof.Proof.HostVal

/- The kernel's sums over lanes, as sums over the nine taps: a lane holds the product of one tap and one region, and the one-hot rows keep the lane of the neighbouring pixel's region. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Lanes -/

/-- Twenty-seven lanes in use, as three times nine. -/
theorem sum_thirtytwo (f : Fin 32 → EReal) (hf : ∀ s : Fin 32, ¬ s.val < 27 → f s = 0) :
    ∑ s, f s = ∑ dx : Fin 3, ∑ j : Fin 9, f ⟨9 * dx.val + j.val, by omega⟩ := by
  have h1 : ∑ s, f s = ∑ s : Fin 27, f ⟨s.val, by omega⟩ := by
    refine (Fin.sum_univ_add (a := 27) (b := 5) f).trans ?_
    rw [Finset.sum_eq_zero (s := (Finset.univ : Finset (Fin 5))) fun s _ => hf _ (by simp), add_zero]
    rfl
  rw [h1, ← Fintype.sum_prod_type']
  refine (Equiv.sum_comp (finProdFinEquiv (m := 3) (n := 9)) fun s : Fin 27 => f ⟨s.val, by omega⟩).symm.trans ?_
  refine Finset.sum_congr rfl fun p _ => congrArg f (Fin.ext ?_)
  simp [finProdFinEquiv]
  omega

/-- One-hot rows pick one lane of every tap. -/
theorem lane_sum (k : Fin 2) (c H : Fin 4 → Fin 32 → EReal) (v : Fin 3 → Fin 3 → Fin 9)
    (hc : ∀ (m : Fin 4) (s : Fin 32), ¬ ((k.val ≤ m.val ∧ m.val < k.val + 3) ∧ s.val < 27) → c m s = 0)
    (hH : ∀ (dy dx : Fin 3) (j : Fin 9), H ⟨k.val + dy.val, by omega⟩ ⟨9 * dx.val + j.val, by omega⟩ = if v dy dx = j then 1 else 0) :
    ∑ m, ∑ s, c m s * H m s = ∑ dy : Fin 3, ∑ dx : Fin 3, c ⟨k.val + dy.val, by omega⟩ ⟨9 * dx.val + (v dy dx).val, by omega⟩ := by
  have hrow : ∀ dy : Fin 3, ∑ s, c ⟨k.val + dy.val, by omega⟩ s * H ⟨k.val + dy.val, by omega⟩ s
      = ∑ dx : Fin 3, c ⟨k.val + dy.val, by omega⟩ ⟨9 * dx.val + (v dy dx).val, by omega⟩ := fun dy => by
    rw [sum_thirtytwo _ fun s hs => by rw [hc _ _ fun h => hs h.2, zero_mul]]
    refine Finset.sum_congr rfl fun dx _ => ?_
    simp only [hH, mul_ite, mul_one, mul_zero]
    exact Finset.sum_ite_eq _ _ _ |>.trans (if_pos (Finset.mem_univ _))
  have hz : ∀ m : Fin 4, ¬ (k.val ≤ m.val ∧ m.val < k.val + 3) → ∑ s, c m s * H m s = 0 := fun m hm =>
    Finset.sum_eq_zero fun s _ => by rw [hc _ _ fun h => hm h.1, zero_mul]
  simp only [← hrow]
  obtain ⟨k, hk⟩ := k
  interval_cases k
  · rw [Fin.sum_univ_castSucc (n := 3), hz (Fin.last 3) (by simp), add_zero]
    exact Finset.sum_congr rfl fun dy _ => by
      have e : (⟨0 + dy.val, by omega⟩ : Fin 4) = dy.castSucc := Fin.ext (by simp)
      simp only [e]
  · rw [Fin.sum_univ_succ (n := 3), hz 0 (by simp), zero_add]
    exact Finset.sum_congr rfl fun dy _ => by
      have e : (⟨1 + dy.val, by omega⟩ : Fin 4) = dy.succ := Fin.ext (by simp; omega)
      simp only [e]

/-! ## Regions of neighbouring pixels -/

theorem regionOf_lt (m : Fin 8 → EReal) : (regionOf m).toNat < 9 := by
  unfold regionOf
  repeat' split
  all_goals decide

/-- The region one row and one column off, eight outside the image. -/
def nbrN (SG : FVec Ideal S4x8x224x224 .f32) (n : Fin 4) (h x : Fin 224) (dy dx : Fin 3) : Fin 9 :=
  if hi : (1 ≤ h.val + dy.val ∧ h.val + dy.val < 225) ∧ (1 ≤ x.val + dx.val ∧ x.val + dx.val < 225) then
    ⟨(regN SG n ⟨h.val + dy.val - 1, by omega⟩ ⟨x.val + dx.val - 1, by omega⟩).toNat, regionOf_lt _⟩
  else 8

theorem padReg_nbr (SG : FVec Ideal S4x8x224x224 .f32) (n : Fin 4) (h x : Fin 224) (dy dx : Fin 3) (y : Fin 240) (z : Fin 384)
    (hy : y.val = h.val + dy.val + 7) (hz : z.val = 127 + dx.val + x.val) : padReg SG n y z = BitVec.ofNat 32 (nbrN SG n h x dy dx).val := by
  unfold padReg nbrN
  by_cases hi : (1 ≤ h.val + dy.val ∧ h.val + dy.val < 225) ∧ (1 ≤ x.val + dx.val ∧ x.val + dx.val < 225)
  · rw [dif_pos hi, dif_pos (by omega)]
    show _ = BitVec.ofNat 32 (BitVec.toNat _)
    rw [BitVec.ofNat_toNat, BitVec.setWidth_eq]
    exact congrArg₂ (regN SG n) (Fin.ext (by dsimp only; omega)) (Fin.ext (by dsimp only; omega))
  · rw [dif_neg hi, dif_neg (by omega)]
    rfl

theorem hot_nbr (SG : FVec Ideal S4x8x224x224 .f32) (I : IVec S4x240x384 32) (hI : ∀ n y z, I (ix3 n y z) = padReg SG n y z)
    (n : Fin 4) (h x : Fin 224) (dy dx : Fin 3) (j : Fin 9) :
    hotN I n (rowN h ⟨(parN h).val + dy.val, by omega⟩) ⟨9 * dx.val + j.val, by omega⟩ x = if nbrN SG n h x dy dx = j then 1 else 0 := by
  have hdx := dx.isLt
  have hj := j.isLt
  have hd : (9 * dx.val + j.val) / 9 = dx.val := by omega
  unfold hotN
  rw [hI, padReg_nbr SG n h x dy dx _ _ (by simp only [rowN, parN]; omega) (by dsimp only; omega)]
  refine if_congr ?_ rfl rfl
  dsimp only
  rw [hd, Nat.add_sub_cancel_left]
  have hv := (nbrN SG n h x dy dx).isLt
  refine ⟨fun e => Fin.ext ?_, fun e => by rw [e]⟩
  have := congrArg BitVec.toNat e
  simp only [BitVec.toNat_ofNat] at this
  omega

/-! ## The two sums -/

/-- A tap's product with the vector of a region. -/
def tapN (T : Fin 8 → EReal) (v : Fin 9) : EReal := if hv : v.val < 8 then T ⟨v.val, hv⟩ else 0

theorem lane_tap (g : FVec Ideal S32x1728 .f32) (n : Fin 4) (o : Fin 192) (dy dx : Fin 3) (v : Fin 9) :
    laneG g n o dy ⟨9 * dx.val + v.val, by omega⟩ = tapN (fun j => g (ix2 ⟨4 * j.val + n.val, by omega⟩ (colN dy dx o))) v := by
  have hdx := dx.isLt
  have hv := v.isLt
  have hm : (9 * dx.val + v.val) % 9 = v.val := by omega
  have hd : (9 * dx.val + v.val) / 9 = dx.val := by omega
  unfold tapN
  by_cases h : v.val < 8
  · rw [dif_pos h]
    refine (laneG_pos g n o dy _ ⟨by dsimp only; omega, by dsimp only; omega⟩).trans ?_
    exact congrArg g (congrArg₂ ix2 (Fin.ext (by dsimp only; omega)) (congrArg (fun d => colN dy d o) (Fin.ext (by dsimp only; omega))))
  · rw [dif_neg h]
    exact laneG_neg g n o dy _ (by dsimp only; omega)

section
variable (g : FVec Ideal S32x1728 .f32) (gb bb : FVec Ideal S96x1 .f32) (n : Fin 4) (k : Fin 2) (o : Fin 96)

theorem biasLane_tap (dy dx : Fin 3) (v : Fin 9) : biasLane k.val (laneN ⟨k.val + dy.val, by omega⟩ ⟨9 * dx.val + v.val, by omega⟩) = if dy = 0 ∧ dx = 0 then 1 else 0 := by
  unfold biasLane laneN
  refine if_congr ?_ rfl rfl
  have hdx := dx.isLt
  have hv := v.isLt
  dsimp only
  simp only [Fin.ext_iff, Fin.val_zero]
  omega

theorem biasLane_off (m : Fin 4) (s : Fin 32) (h : ¬ ((k.val ≤ m.val ∧ m.val < k.val + 3) ∧ s.val < 27)) : biasLane k.val (laneN m s) = 0 := by
  unfold biasLane laneN
  refine if_neg ?_
  dsimp only
  omega

theorem big_tap (o : Fin 192) (dy dx : Fin 3) (v : Fin 9) :
    bigV g (ix3 n ⟨192 * k.val + o.val, by omega⟩ (laneN ⟨k.val + dy.val, by omega⟩ ⟨9 * dx.val + v.val, by omega⟩))
      = tapN (fun j => g (ix2 ⟨4 * j.val + n.val, by omega⟩ (colN dy dx o))) v := by
  refine (bigV_apply g n k o _ _).trans ?_
  rw [dif_pos ⟨by dsimp only; omega, by dsimp only; omega⟩, ← lane_tap]
  exact congrArg (fun d => laneG g n o d _) (Fin.ext (by dsimp only; omega))

theorem big_off (o : Fin 192) (m : Fin 4) (s : Fin 32) (h : ¬ ((k.val ≤ m.val ∧ m.val < k.val + 3) ∧ s.val < 27)) :
    bigV g (ix3 n ⟨192 * k.val + o.val, by omega⟩ (laneN m s)) = 0 := by
  refine (bigV_apply g n k o m s).trans ?_
  by_cases hm : k.val ≤ m.val ∧ m.val < k.val + 3
  · rw [dif_pos hm]; exact laneG_neg g n o _ s (by omega)
  · rw [dif_neg hm]

theorem gam_tap (dy dx : Fin 3) (v : Fin 9) :
    gamN (bigV g) gb n k o (laneN ⟨k.val + dy.val, by omega⟩ ⟨9 * dx.val + v.val, by omega⟩)
      = tapN (fun j => g (ix2 ⟨4 * j.val + n.val, by omega⟩ (colN dy dx ⟨o.val, by omega⟩))) v + (if dy = 0 ∧ dx = 0 then 1 else 0) * (1 + gb (ix2 o 0)) := by
  unfold gamN
  rw [biasLane_tap]
  exact congrArg (· + _) (big_tap g n k ⟨o.val, by omega⟩ dy dx v)

theorem gam_off (m : Fin 4) (s : Fin 32) (h : ¬ ((k.val ≤ m.val ∧ m.val < k.val + 3) ∧ s.val < 27)) : gamN (bigV g) gb n k o (laneN m s) = 0 := by
  unfold gamN
  rw [biasLane_off k m s h, zero_mul, add_zero]
  exact big_off g n k ⟨o.val, by omega⟩ m s h

theorem bet_tap (dy dx : Fin 3) (v : Fin 9) :
    betN (bigV g) bb n k o (laneN ⟨k.val + dy.val, by omega⟩ ⟨9 * dx.val + v.val, by omega⟩)
      = tapN (fun j => g (ix2 ⟨4 * j.val + n.val, by omega⟩ (colN dy dx ⟨96 + o.val, by omega⟩))) v + (if dy = 0 ∧ dx = 0 then 1 else 0) * bb (ix2 o 0) := by
  unfold betN
  rw [biasLane_tap]
  refine congrArg (· + _) (Eq.trans ?_ (big_tap g n k ⟨96 + o.val, by omega⟩ dy dx v))
  exact congrArg (fun q => bigV g (ix3 n q _)) (Fin.ext (by dsimp only; omega))

theorem bet_off (m : Fin 4) (s : Fin 32) (h : ¬ ((k.val ≤ m.val ∧ m.val < k.val + 3) ∧ s.val < 27)) : betN (bigV g) bb n k o (laneN m s) = 0 := by
  unfold betN
  rw [biasLane_off k m s h, zero_mul, add_zero]
  refine Eq.trans ?_ (big_off g n k ⟨96 + o.val, by omega⟩ m s h)
  exact congrArg (fun q => bigV g (ix3 n q _)) (Fin.ext (by dsimp only; omega))

end

section
variable (SG : FVec Ideal S4x8x224x224 .f32) (I : IVec S4x240x384 32) (hI : ∀ n y z, I (ix3 n y z) = padReg SG n y z)
  (g : FVec Ideal S32x1728 .f32) (S : FVec Ideal S2x96x224 .f32) (w b gb bb : FVec Ideal S96x1 .f32)

/-- The scale's factor at one tap. -/
def gamTap (gb : EReal) (T : Fin 3 → Fin 3 → EReal) (dy dx : Fin 3) : EReal := T dy dx + (if dy = 0 ∧ dx = 0 then 1 else 0) * gb

include hI

theorem gamSum_taps (n : Fin 4) (o : Fin 96) (h x : Fin 224) :
    gamSum I (bigV g) S w gb n o h x = ∑ dy : Fin 3, ∑ dx : Fin 3,
      gamTap (1 + gb (ix2 o 0)) (fun dy dx => tapN (fun j => g (ix2 ⟨4 * j.val + n.val, by omega⟩ (colN dy dx ⟨o.val, by omega⟩))) (nbrN SG n h x dy dx)) dy dx * scaleN S w o := by
  unfold gamSum
  refine (lane_sum (parN h) _ (fun m s => hotN I n (rowN h m) s x) (nbrN SG n h x) (fun m s hms => ?_) fun dy dx j => hot_nbr SG I hI n h x dy dx j).trans ?_
  · rw [gam_off g gb n _ o m s hms, zero_mul]
  · unfold gamTap
    simp only [gam_tap]

theorem betSum_taps (n : Fin 4) (o : Fin 96) (h x : Fin 224) :
    betSum I (bigV g) S w b gb bb n o h x = ∑ dy : Fin 3, ∑ dx : Fin 3,
      (gamTap (bb (ix2 o 0)) (fun dy dx => tapN (fun j => g (ix2 ⟨4 * j.val + n.val, by omega⟩ (colN dy dx ⟨96 + o.val, by omega⟩))) (nbrN SG n h x dy dx)) dy dx
        + shiftN S w b o * gamTap (1 + gb (ix2 o 0)) (fun dy dx => tapN (fun j => g (ix2 ⟨4 * j.val + n.val, by omega⟩ (colN dy dx ⟨o.val, by omega⟩))) (nbrN SG n h x dy dx)) dy dx) := by
  unfold betSum
  refine (lane_sum (parN h) _ (fun m s => hotN I n (rowN h m) s x) (nbrN SG n h x) (fun m s hms => ?_) fun dy dx j => hot_nbr SG I hI n h x dy dx j).trans ?_
  · rw [gam_off g gb n _ o m s hms, bet_off g bb n _ o m s hms, mul_zero, add_zero]
  · unfold gamTap
    simp only [gam_tap, bet_tap]

end

end Cert.KernelIdeal.Hand
-- ==== Proof.RefRegion.lean ====
module

public import proofs.«01_k».proof.Proof.Gen.ReferenceIdeal.Read
public import proofs.«01_k».proof.Proof.PreG
public import Idealize.ShloMosaic.Lib.StableHlo.Predicate

/- The reference's region map, region by region: the step of one region written once, with the region as a parameter. -/

@[expose] public section

set_option maxRecDepth 16384

noncomputable section

namespace Cert.ReferenceIdeal.Hand

open Cert.ReferenceIdeal Cert.ReferenceIdeal.Gen Cert.ReferenceIdeal.Read
open Cert.KernelIdeal.Hand (muN midN thr above regionOf)
open Idealize.ShloMosaic Idealize.ShloMosaic.TcCoe Idealize.ShloMosaic.Tactic

theorem sg_slices (j : ℕ) (hj : j < 8) : S4x8x224x224.Slices ![0, j, 0, 0] S4x1x224x224 := ⟨rfl, fun a => by fin_cases a <;> simp <;> omega⟩
theorem mc_slices (j : ℕ) (hj : j < 8) : S4x8.Slices ![0, j] S4x1 := ⟨rfl, fun a => by fin_cases a <;> simp <;> omega⟩
theorem fcw_slices (j : ℕ) (hj : j < 8) : S8x256x256.Slices ![j, 0, 0] S1x256x256 := ⟨rfl, fun a => by fin_cases a <;> simp <;> omega⟩
theorem fcb_slices (j : ℕ) (hj : j < 8) : S8x256.Slices ![j, 0] S1x256 := ⟨rfl, fun a => by fin_cases a <;> simp <;> omega⟩

/-- Region `j`'s mask. -/
def maskV (x1 : FVec Ideal S4x8x224x224 .f32) (j : Fin 8) : IVec S4x224x224 1 :=
  have m : IVec S4x1x224x224 1 := extractStridedSlice S4x1x224x224 ![0, j.val, 0, 0] (val_main_v19 (F := Ideal) x1) (sg_slices _ j.isLt)
  shapeCast S4x224x224 m shapeCasts_S4x1x224x224_S4x224x224

/-- Its number of pixels. -/
def areaV (x1 : FVec Ideal S4x8x224x224 .f32) (j : Fin 8) : IVec S4 32 :=
  Host.reduce IntOp.addi (extui 32 (maskV x1 j) natLt_1_32 : IVec S4x224x224 32) (constantI S_ 32 0#32) reducesTo_S4x224x224_S4_d1_2 h_S_

/-- A scalar for every image. -/
def const4 (v : BitVec 32) : IVec S4 32 := broadcastInDim S4 ![] bcast_S_S4 (constantI S_ 32 v)

/-- The style row it uses if it has pixels. -/
def pickV (x3 : IVec S4x8 32) (j : Fin 8) : IVec S4 32 :=
  have code : IVec S4 32 := shapeCast S4 (extractStridedSlice S4x1 ![0, j.val] x3 (mc_slices _ j.isLt) : IVec S4x1 32) shapeCasts_S4x1_S4
  select (cmpi .eq code (const4 1#32)) (const4 (BitVec.ofNat 32 j.val)) (const4 8#32)

/-- The pairs of image and row, as the lookup takes them. -/
def whereV (x3 : IVec S4x8 32) (j : Fin 8) : IVec S4x2 32 :=
  have n : IVec S4 32 := select (cmpi .slt (iotaInDim S4 32 0) (const4 0#32)) (addi (iotaInDim S4 32 0) (const4 4#32)) (iotaInDim S4 32 0)
  have k : IVec S4 32 := select (cmpi .slt (pickV x3 j) (const4 0#32)) (addi (pickV x3 j) (const4 9#32)) (pickV x3 j)
  have n' : IVec S4x1 32 := broadcastInDim S4x1 ![0] bcast_S4_S4x1_0 n
  have k' : IVec S4x1 32 := broadcastInDim S4x1 ![0] bcast_S4_S4x1_0 k
  concatenate S4x2 1 [⟨S4x1, n'⟩, ⟨S4x1, k'⟩] concatenates_S4x1_S4x1_S4x2_d1

/-- The row found. -/
def rowV (x2 : FVec Ideal S4x9x256 .f32) (x3 : IVec S4x8 32) (j : Fin 8) : FVec Ideal S4x256 .f32 :=
  Host.gather gather_S4x9x256_S4x2_S4x256_1_01_n_n_01_1_11256 x2 (whereV x3 j)

/-- What its layer is given. -/
def inpV (x1 : FVec Ideal S4x8x224x224 .f32) (x2 : FVec Ideal S4x9x256 .f32) (x3 : IVec S4x8 32) (j : Fin 8) : FVec Ideal S4x256 .f32 :=
  have some : IVec S4x1 1 := broadcastInDim S4x1 ![0] bcast_S4_S4x1_0 (cmpi .sgt (areaV x1 j) (const4 0#32))
  select (broadcastInDim S4x256 ![0, 1] bcast_S4x1_S4x256_0_1 some) (rowV x2 x3 j) (val_main_v22 (F := Ideal) x2)

/-- The layer. -/
def fcV (m : FVec Ideal S4x256 .f32) (x10 : FVec Ideal S8x256x256 .f32) (x11 : FVec Ideal S8x256 .f32) (j : Fin 8) : FVec Ideal S4x256 .f32 :=
  have w : FVec Ideal S256x256 .f32 := shapeCast S256x256 (extractStridedSlice S1x256x256 ![j.val, 0, 0] x10 (fcw_slices _ j.isLt) : FVec Ideal S1x256x256 .f32) shapeCasts_S1x256x256_S256x256
  have p : FVec Ideal S4x256 .f32 := Host.dotGeneral dot_S4x256_S256x256_S4x256_1_0_0_1_n_n none m (transpose S256x256 [1, 0] w transposes_S256x256_S256x256_1_0 : FVec Ideal S256x256 .f32)
  have b : FVec Ideal S256 .f32 := shapeCast S256 (extractStridedSlice S1x256 ![j.val, 0] x11 (fcb_slices _ j.isLt) : FVec Ideal S1x256 .f32) shapeCasts_S1x256_S256
  have b' : FVec Ideal S1x256 .f32 := broadcastInDim S1x256 ![1] bcast_S256_S1x256_1 b
  maximumf (addf p (broadcastInDim S4x256 ![0, 1] bcast_S1x256_S4x256_0_1 b')) (broadcastInDim S4x256 ![] bcast_S_S4x256 (constant S_ .f32 0x00000000#32))

/-- The region's vector written where its mask is set. -/
def stepV (x1 : FVec Ideal S4x8x224x224 .f32) (x2 : FVec Ideal S4x9x256 .f32) (x3 : IVec S4x8 32) (x10 : FVec Ideal S8x256x256 .f32) (x11 : FVec Ideal S8x256 .f32)
    (j : Fin 8) (prev : FVec Ideal S4x256x224x224 .f32) : FVec Ideal S4x256x224x224 .f32 :=
  have m : IVec S4x1x224x224 1 := broadcastInDim S4x1x224x224 ![0, 2, 3] bcast_S4x224x224_S4x1x224x224_0_2_3 (maskV x1 j)
  have v : FVec Ideal S4x256x1x1 .f32 := broadcastInDim S4x256x1x1 ![0, 1] bcast_S4x256_S4x256x1x1_0_1 (fcV (inpV x1 x2 x3 j) x10 x11 j)
  select (broadcastInDim S4x256x224x224 ![0, 1, 2, 3] bcast_S4x1x224x224_S4x256x224x224_0_1_2_3 m)
    (broadcastInDim S4x256x224x224 ![0, 1, 2, 3] bcast_S4x256x1x1_S4x256x224x224_0_1_2_3 v) prev

section
variable (x1 : FVec Ideal S4x8x224x224 .f32) (x2 : FVec Ideal S4x9x256 .f32) (x3 : IVec S4x8 32) (x10 : FVec Ideal S8x256x256 .f32) (x11 : FVec Ideal S8x256 .f32)

theorem step0_eq : val_main_v66 (F := Ideal) x1 x2 x3 x10 x11 = stepV x1 x2 x3 x10 x11 0 (val_main_v23 (F := Ideal)) := rfl
theorem step1_eq : val_main_v108 (F := Ideal) x1 x2 x3 x10 x11 = stepV x1 x2 x3 x10 x11 1 (val_main_v66 (F := Ideal) x1 x2 x3 x10 x11) := rfl
theorem step2_eq : val_main_v150 (F := Ideal) x1 x2 x3 x10 x11 = stepV x1 x2 x3 x10 x11 2 (val_main_v108 (F := Ideal) x1 x2 x3 x10 x11) := rfl
theorem step3_eq : val_main_v192 (F := Ideal) x1 x2 x3 x10 x11 = stepV x1 x2 x3 x10 x11 3 (val_main_v150 (F := Ideal) x1 x2 x3 x10 x11) := rfl
theorem step4_eq : val_main_v234 (F := Ideal) x1 x2 x3 x10 x11 = stepV x1 x2 x3 x10 x11 4 (val_main_v192 (F := Ideal) x1 x2 x3 x10 x11) := rfl
theorem step5_eq : val_main_v276 (F := Ideal) x1 x2 x3 x10 x11 = stepV x1 x2 x3 x10 x11 5 (val_main_v234 (F := Ideal) x1 x2 x3 x10 x11) := rfl
theorem step6_eq : val_main_v318 (F := Ideal) x1 x2 x3 x10 x11 = stepV x1 x2 x3 x10 x11 6 (val_main_v276 (F := Ideal) x1 x2 x3 x10 x11) := rfl
theorem step7_eq : val_main_v360 (F := Ideal) x1 x2 x3 x10 x11 = stepV x1 x2 x3 x10 x11 7 (val_main_v318 (F := Ideal) x1 x2 x3 x10 x11) := rfl

theorem fcV_apply (m : FVec Ideal S4x256 .f32) (j : Fin 8) (n : Fin 4) (s : Fin 256) :
    fcV m x10 x11 j (ix2 n s) = max ((∑ i : Fin 256, m (ix2 n i) * x10 (ix3 j s i)) + x11 (ix2 j s)) 0 := by
  pointwise [fcV]

theorem areaV_apply (j : Fin 8) (n : Fin 4) :
    areaV x1 j (ix1 n) = Finset.fold IntOp.addi (0#32)
      (fun p : Fin 224 × Fin 224 => BitVec.setWidth 32 (BitVec.ofBool (decide (thr < x1 (ix4 n j p.1 p.2))))) Finset.univ := by
  unfold thr
  pointwise [areaV, maskV, val_main_v19, val_main_v18, val_main_cst_2]

/-- A sum of zeros and ones in machine integers. -/
theorem fold_bits {ι : Type} [DecidableEq ι] (S : Finset ι) (c : ι → Prop) [DecidablePred c] :
    Finset.fold IntOp.addi (0#32) (fun p => BitVec.setWidth 32 (BitVec.ofBool (decide (c p)))) S = BitVec.ofNat 32 (∑ p ∈ S, if c p then 1 else 0) := by
  induction S using Finset.induction_on with
  | empty => rfl
  | insert a S ha ih =>
    rw [Finset.fold_insert ha, ih, Finset.sum_insert ha, BitVec.ofNat_add]
    by_cases h : c a <;> simp [h, IntOp.addi]

theorem sgt_ofNat (k : ℕ) (hk : k < 2 ^ 31) : IntOp.cmpi .sgt (BitVec.ofNat 32 k) 0#32 = BitVec.ofBool (decide (0 < k)) := by
  show BitVec.ofBool ((0#32).slt (BitVec.ofNat 32 k)) = _
  rw [BitVec.slt_eq_decide, BitVec.toInt_zero, StableHlo.Predicate.toInt_ofNat_small _ hk]
  simp

/-- It is positive exactly when some element counts. -/
theorem bits_pos {ι : Type} [DecidableEq ι] (S : Finset ι) (c : ι → Prop) [DecidablePred c] (hS : S.card < 2 ^ 31) :
    IntOp.cmpi .sgt (Finset.fold IntOp.addi (0#32) (fun p => BitVec.setWidth 32 (BitVec.ofBool (decide (c p)))) S) 0#32
      = BitVec.ofBool (decide (∃ p ∈ S, c p)) := by
  rw [fold_bits]
  have hle : (∑ p ∈ S, if c p then 1 else 0) ≤ S.card := by
    rw [Finset.card_eq_sum_ones]; exact Finset.sum_le_sum fun p _ => by split <;> simp
  have hiff : 0 < (∑ p ∈ S, if c p then 1 else 0) ↔ ∃ p ∈ S, c p := by
    rw [Finset.sum_pos_iff]
    exact exists_congr fun p => and_congr_right fun _ => by split <;> simp_all
  rw [sgt_ofNat _ (by omega)]
  exact congrArg BitVec.ofBool (decide_eq_decide.mpr hiff)

/-- So is the sum of ones over the rows and columns. -/
theorem above_pos (f : Fin 224 → Fin 224 → EReal) : (0 < ∑ x : Fin 224, ∑ h : Fin 224, above (f h x)) ↔ ∃ p ∈ (Finset.univ : Finset (Fin 224 × Fin 224)), thr < f p.1 p.2 := by
  have h0 : ∀ v, 0 ≤ above v := fun v => by unfold above; split <;> simp
  constructor
  · intro h
    by_contra hn
    push Not at hn
    refine absurd h (not_lt.mpr (le_of_eq ?_))
    refine Finset.sum_eq_zero fun x _ => Finset.sum_eq_zero fun h _ => ?_
    unfold above
    rw [if_neg (not_lt.mpr (hn (h, x) (Finset.mem_univ _)))]
  · rintro ⟨⟨h, x⟩, -, hp⟩
    refine lt_of_lt_of_le zero_lt_one (le_trans (le_of_eq ?_) ((Finset.single_le_sum (f := fun h => above (f h x)) (fun _ _ => h0 _) (Finset.mem_univ h)).trans
      (Finset.single_le_sum (f := fun x => ∑ h, above (f h x)) (fun _ _ => Finset.sum_nonneg fun _ _ => h0 _) (Finset.mem_univ x))))
    unfold above
    exact (if_pos hp).symm

theorem whereV_image (j : Fin 8) (n : Fin 4) : whereV x3 j (ix2 n 0) = BitVec.ofNat 32 n.val := by
  pointwise [whereV, pickV, const4]
  fin_cases n <;> rfl

theorem whereV_row (j : Fin 8) (n : Fin 4) : whereV x3 j (ix2 n 1) = if x3 (ix2 n j) = 1#32 then BitVec.ofNat 32 j.val else 8#32 := by
  pointwise [whereV, pickV, const4]
  have e : Scalar.select (IntOp.cmpi CmpIPredicate.eq (x3 (ix2 n j)) 1#32) (BitVec.ofNat 32 j.val) 8#32 = if x3 (ix2 n j) = 1#32 then BitVec.ofNat 32 j.val else 8#32 := by
    by_cases h : x3 (ix2 n j) = 1#32
    · rw [h]; rfl
    · rw [if_neg h]
      have h' : (x3 (ix2 n j) == 1#32) = false := beq_eq_false_iff_ne.mpr h
      show (if BitVec.ofBool (x3 (ix2 n j) == 1#32) = 1#1 then _ else _) = _
      rw [h', if_neg (by decide)]
  rw [e]
  by_cases h : x3 (ix2 n j) = 1#32
  · simp only [if_pos h]; fin_cases j <;> rfl
  · simp only [if_neg h]; rfl

/-- The lookup of row `k` of image `n`. -/
theorem gather_pair (x : FVec Ideal S4x9x256 .f32) (idx : IVec S4x2 32) (n : Fin 4) (s : Fin 256) (a : Fin 4) (k : Fin 9)
    (ha : idx (ix2 n 0) = BitVec.ofNat 32 a.val) (hk : idx (ix2 n 1) = BitVec.ofNat 32 k.val) :
    Host.gather gather_S4x9x256_S4x2_S4x256_1_01_n_n_01_1_11256 x idx (ix2 n s) = x (ix3 a k s) := by
  unfold Host.gather
  refine congrArg x (funext fun d => Fin.ext ?_)
  have hn := n.isLt
  have ha' := a.isLt
  have hk' := k.isLt
  show GatherDims.start _ (ix2 n s) idx d + GatherDims.batchCoord _ (ix2 n s) d + GatherDims.offCoord _ (ix2 n s) d = _
  rw [GatherDims.batchCoord_eq_zero _ _ _ List.not_mem_nil, Nat.add_zero]
  have hd : d = 0 ∨ d = 1 ∨ d = 2 := by revert d; decide
  rcases hd with rfl | rfl | rfl
  · have hi : GatherDims.siIdx gather_S4x9x256_S4x2_S4x256_1_01_n_n_01_1_11256 (ix2 n s) ⟨0, by decide⟩ = ix2 n 0 := by
      funext b; match b with | ⟨0, _⟩ => rfl | ⟨1, _⟩ => rfl
    rw [GatherDims.offCoord_eq_zero _ _ _ (by decide), Nat.add_zero, GatherDims.start, dif_pos (by decide)]
    refine (congrArg (fun v : BitVec 32 => min v.toInt.toNat 3) ((congrArg idx hi).trans ha)).trans ?_
    rw [StableHlo.Predicate.toInt_ofNat_small _ (by omega)]
    show min a.val 3 = a.val
    omega
  · have hi : GatherDims.siIdx gather_S4x9x256_S4x2_S4x256_1_01_n_n_01_1_11256 (ix2 n s) ⟨1, by decide⟩ = ix2 n 1 := by
      funext b; match b with | ⟨0, _⟩ => rfl | ⟨1, _⟩ => rfl
    rw [GatherDims.offCoord_eq_zero _ _ _ (by decide), Nat.add_zero, GatherDims.start, dif_pos (by decide)]
    refine (congrArg (fun v : BitVec 32 => min v.toInt.toNat 8) ((congrArg idx hi).trans hk)).trans ?_
    rw [StableHlo.Predicate.toInt_ofNat_small _ (by omega)]
    show min k.val 8 = k.val
    omega
  · rw [GatherDims.start, dif_neg (by decide), Nat.zero_add]
    rfl

theorem rowV_apply (j : Fin 8) (n : Fin 4) (s : Fin 256) :
    rowV x2 x3 j (ix2 n s) = if x3 (ix2 n j) = 1#32 then x2 (ix3 n ⟨j.val, by omega⟩ s) else x2 (ix3 n 8 s) := by
  unfold rowV
  by_cases h : x3 (ix2 n j) = 1#32
  · rw [if_pos h]; exact gather_pair x2 _ n s n ⟨j.val, by omega⟩ (whereV_image x3 j n) ((whereV_row x3 j n).trans (if_pos h))
  · rw [if_neg h]; exact gather_pair x2 _ n s n 8 (whereV_image x3 j n) ((whereV_row x3 j n).trans (if_neg h))

theorem inpV_apply (j : Fin 8) (n : Fin 4) (i : Fin 256) :
    inpV x1 x2 x3 j (ix2 n i) = midN (fun k i => x2 (ix3 n k i)) (∑ x : Fin 224, ∑ h : Fin 224, above (x1 (ix4 n j h x))) (x3 (ix2 n j)) j i := by
  have e := rowV_apply x2 x3 j n i
  pointwise [inpV, const4, val_main_v22, val_main_v21, val_main_v20, val_main_cst_3, val_main_cst_4]
  rw [areaV_apply, bits_pos _ _ (by simp), e]
  unfold midN
  by_cases h : ∃ p ∈ (Finset.univ : Finset (Fin 224 × Fin 224)), thr < x1 (ix4 n j p.1 p.2)
  · rw [if_pos ((above_pos fun h x => x1 (ix4 n j h x)).mpr h), decide_eq_true h]; rfl
  · rw [if_neg fun h' => h ((above_pos fun h x => x1 (ix4 n j h x)).mp h'), decide_eq_false h]; rfl

/-- Region `j`'s vector of image `n`. -/
def muR (n : Fin 4) (j : Fin 8) (s : Fin 256) : EReal :=
  muN (fun k i => x2 (ix3 n k i)) (∑ x : Fin 224, ∑ h : Fin 224, above (x1 (ix4 n j h x))) (x3 (ix2 n j)) (fun i s => x10 (ix3 j s i)) (fun s => x11 (ix2 j s)) j s

theorem stepV_apply (j) (prev : FVec Ideal S4x256x224x224 .f32) (n : Fin 4) (s : Fin 256) (h x : Fin 224) :
    stepV x1 x2 x3 x10 x11 j prev (ix4 n s h x) = if thr < x1 (ix4 n j h x) then muR x1 x2 x3 x10 x11 n j s else prev (ix4 n s h x) := by
  have e : fcV (inpV x1 x2 x3 j) x10 x11 j (ix2 n s) = muR x1 x2 x3 x10 x11 n j s := by
    rw [fcV_apply]
    unfold muR muN
    simp only [inpV_apply]
  rw [← e]
  unfold thr
  pointwise [stepV, maskV, val_main_v19, val_main_v18, val_main_cst_2]

/-- The region map: the vector of the pixel's region, zero where there is none. -/
def midR (n : Fin 4) (s : Fin 256) (h x : Fin 224) : EReal :=
  if hr : (regionOf fun j => x1 (ix4 n j h x)).toNat < 8 then muR x1 x2 x3 x10 x11 n ⟨_, hr⟩ s else 0

theorem v360_apply (n : Fin 4) (s : Fin 256) (h x : Fin 224) :
    val_main_v360 (F := Ideal) x1 x2 x3 x10 x11 (ix4 n s h x) = midR x1 x2 x3 x10 x11 n s h x := by
  have e0 : val_main_v23 (F := Ideal) (ix4 n s h x) = 0 := by pointwise [val_main_v23, val_main_cst_5]
  rw [step7_eq, stepV_apply, step6_eq, stepV_apply, step5_eq, stepV_apply, step4_eq, stepV_apply, step3_eq, stepV_apply, step2_eq, stepV_apply,
    step1_eq, stepV_apply, step0_eq, stepV_apply, e0]
  unfold midR regionOf
  by_cases h7 : thr < x1 (ix4 n 7 h x)
  · simp only [if_pos h7]; rfl
  by_cases h6 : thr < x1 (ix4 n 6 h x)
  · simp only [if_neg h7, if_pos h6]; rfl
  by_cases h5 : thr < x1 (ix4 n 5 h x)
  · simp only [if_neg h7, if_neg h6, if_pos h5]; rfl
  by_cases h4 : thr < x1 (ix4 n 4 h x)
  · simp only [if_neg h7, if_neg h6, if_neg h5, if_pos h4]; rfl
  by_cases h3 : thr < x1 (ix4 n 3 h x)
  · simp only [if_neg h7, if_neg h6, if_neg h5, if_neg h4, if_pos h3]; rfl
  by_cases h2 : thr < x1 (ix4 n 2 h x)
  · simp only [if_neg h7, if_neg h6, if_neg h5, if_neg h4, if_neg h3, if_pos h2]; rfl
  by_cases h1 : thr < x1 (ix4 n 1 h x)
  · simp only [if_neg h7, if_neg h6, if_neg h5, if_neg h4, if_neg h3, if_neg h2, if_pos h1]; rfl
  by_cases h0 : thr < x1 (ix4 n 0 h x)
  · simp only [if_neg h7, if_neg h6, if_neg h5, if_neg h4, if_neg h3, if_neg h2, if_neg h1, if_pos h0]; rfl
  · simp only [if_neg h7, if_neg h6, if_neg h5, if_neg h4, if_neg h3, if_neg h2, if_neg h1, if_neg h0]; rfl

end
end Cert.ReferenceIdeal.Hand
-- ==== Proof.RefTaps.lean ====
module

public import proofs.«01_k».proof.Proof.RefRegion

/- The reference's two three by three convolutions and its normalisation, each written once and read at an element. -/

@[expose] public section

set_option maxRecDepth 16384

noncomputable section

namespace Cert.ReferenceIdeal.Hand

open Cert.ReferenceIdeal Cert.ReferenceIdeal.Gen Cert.ReferenceIdeal.Read
open Cert.KernelIdeal.Hand (muN midN thr above regionOf)
open Idealize.ShloMosaic Idealize.ShloMosaic.TcCoe Idealize.ShloMosaic.Tactic

theorem pad_slices (dy dx : Fin 3) : S4x256x226x226.Slices ![0, 0, dy.val, dx.val] S4x256x224x224 := ⟨rfl, fun a => by fin_cases a <;> simp <;> omega⟩
theorem w_slices (dy dx : Fin 3) : S96x256x3x3.Slices ![0, 0, dy.val, dx.val] S96x256x1x1 := ⟨rfl, fun a => by fin_cases a <;> simp <;> omega⟩

/-- The map with its border of zeros. -/
def rimV (x : FVec Ideal S4x256x224x224 .f32) : FVec Ideal S4x256x226x226 .f32 :=
  pad S4x256x226x226 ![0, 0, 1, 1] ![0, 0, 1, 1] ![0, 0, 0, 0] x (sitofp (F := Ideal) .f32 (constantI S_ 32 0#32) : FVec Ideal S_ .f32)
    pads_S4x256x224x224_S4x256x226x226_000_000_110_110 h_S_

/-- One of the nine products. -/
def tapV (x : FVec Ideal S4x256x226x226 .f32) (w : FVec Ideal S96x256x3x3 .f32) (dy dx : Fin 3) : FVec Ideal S4x96x224x224 .f32 :=
  have x' : FVec Ideal S4x256x224x224 .f32 := extractStridedSlice S4x256x224x224 ![0, 0, dy.val, dx.val] x (pad_slices dy dx)
  have w' : FVec Ideal S96x256 .f32 := shapeCast S96x256 (extractStridedSlice S96x256x1x1 ![0, 0, dy.val, dx.val] w (w_slices dy dx) : FVec Ideal S96x256x1x1 .f32) shapeCasts_S96x256x1x1_S96x256
  transpose S4x96x224x224 [1, 0, 2, 3] (Host.dotGeneral dot_S96x256_S4x256x224x224_S96x4x224x224_1_1_0_023_n_n none w' x' : FVec Ideal S96x4x224x224 .f32) transposes_S96x4x224x224_S4x96x224x224_1_0_2_3

/-- The nine added up. -/
def convV (x : FVec Ideal S4x256x226x226 .f32) (w : FVec Ideal S96x256x3x3 .f32) : FVec Ideal S4x96x224x224 .f32 :=
  have z : FVec Ideal S4x96x224x224 .f32 := broadcastInDim S4x96x224x224 ![] bcast_S_S4x96x224x224 (constant S_ .f32 0x00000000#32)
  addf (addf (addf (addf (addf (addf (addf (addf (addf z (tapV x w 0 0)) (tapV x w 0 1)) (tapV x w 0 2)) (tapV x w 1 0)) (tapV x w 1 1)) (tapV x w 1 2)) (tapV x w 2 0)) (tapV x w 2 1)) (tapV x w 2 2)

/-- A bias over the channels, added. -/
def biasV (x : FVec Ideal S4x96x224x224 .f32) (b : FVec Ideal S96 .f32) : FVec Ideal S4x96x224x224 .f32 :=
  have b' : FVec Ideal S1x96x1x1 .f32 := shapeCast S1x96x1x1 b shapeCasts_S96_S1x96x1x1
  addf x (broadcastInDim S4x96x224x224 ![0, 1, 2, 3] bcast_S1x96x1x1_S4x96x224x224_0_1_2_3 b')

variable (x0 : FVec Ideal S4x96x224x224 .f32) (x1 : FVec Ideal S4x8x224x224 .f32) (x2 : FVec Ideal S4x9x256 .f32) (x3 : IVec S4x8 32) (x4 x5 : FVec Ideal S96 .f32) (x6 x8 : FVec Ideal S96x256x3x3 .f32) (x7 x9 : FVec Ideal S96 .f32)
  (x10 : FVec Ideal S8x256x256 .f32) (x11 : FVec Ideal S8x256 .f32)

theorem gamma_eq : val_main_v419 (F := Ideal) x1 x2 x3 x6 x7 x10 x11 = biasV (convV (rimV (val_main_v360 (F := Ideal) x1 x2 x3 x10 x11)) x6) x7 := rfl
theorem beta_eq : val_main_v478 (F := Ideal) x1 x2 x3 x8 x9 x10 x11 = biasV (convV (rimV (val_main_v360 (F := Ideal) x1 x2 x3 x10 x11)) x8) x9 := rfl

/-- The map one row and one column off, zero outside. -/
def rimN (f : Fin 224 → Fin 224 → EReal) (h x : Fin 224) (dy dx : Fin 3) : EReal :=
  if hi : (1 ≤ h.val + dy.val ∧ h.val + dy.val < 225) ∧ (1 ≤ x.val + dx.val ∧ x.val + dx.val < 225) then
    f ⟨h.val + dy.val - 1, by omega⟩ ⟨x.val + dx.val - 1, by omega⟩
  else 0

theorem rimV_apply (x : FVec Ideal S4x256x224x224 .f32) (n : Fin 4) (s : Fin 256) (h z : Fin 224) (dy dx : Fin 3) :
    rimV x (ix4 n s ⟨dy.val + h.val, by omega⟩ ⟨dx.val + z.val, by omega⟩) = rimN (fun h x' => x (ix4 n s h x')) h z dy dx := by
  pointwise [rimV]
  unfold rimN
  by_cases hi : (1 ≤ h.val + dy.val ∧ h.val + dy.val < 225) ∧ (1 ≤ z.val + dx.val ∧ z.val + dx.val < 225)
  · rw [dif_pos hi, dif_pos (by omega)]
    exact congrArg x (congrArg₂ (ix4 n s) (Fin.ext (by dsimp only; omega)) (Fin.ext (by dsimp only; omega)))
  · rw [dif_neg hi, dif_neg (by omega)]
    show (((0#32).toInt : ℝ) : EReal) = 0
    simp

theorem tapV_apply (x : FVec Ideal S4x256x224x224 .f32) (w : FVec Ideal S96x256x3x3 .f32) (dy dx : Fin 3) (n : Fin 4) (o : Fin 96) (h z : Fin 224) :
    tapV (rimV x) w dy dx (ix4 n o h z) = ∑ s : Fin 256, w (ix4 o s dy dx) * rimN (fun h x' => x (ix4 n s h x')) h z dy dx := by
  simp only [← rimV_apply]
  pointwise [tapV]

theorem convV_apply (x : FVec Ideal S4x256x224x224 .f32) (w : FVec Ideal S96x256x3x3 .f32) (b : FVec Ideal S96 .f32) (n : Fin 4) (o : Fin 96) (h z : Fin 224) :
    biasV (convV (rimV x) w) b (ix4 n o h z)
      = (∑ dy : Fin 3, ∑ dx : Fin 3, ∑ s : Fin 256, w (ix4 o s dy dx) * rimN (fun h x' => x (ix4 n s h x')) h z dy dx) + b (ix1 o) := by
  simp only [← tapV_apply]
  pointwise [biasV, convV]
  simp only [Fin.sum_univ_three, add_assoc, zero_add]

/-! ## The normalisation -/

/-- The literals: the number of elements of a channel, and the offset under the root. -/
def sizeL : EReal := Ideal.ofBits FTy.f32 0x48440000#32
def epsL : EReal := Ideal.ofBits FTy.f32 0x3727C5AC#32

theorem sizeL_eq : sizeL = ((200704 : ℝ) : EReal) := by
  unfold sizeL
  simp [Ideal.ofBits, Ideal.ieee]
  rw [← EReal.coe_mul]
  norm_num

theorem epsL_pos : ∃ e : ℝ, 0 < e ∧ epsL = (e : EReal) := by
  unfold epsL
  simp [Ideal.ofBits, Ideal.ieee]
  exact ⟨_, by norm_num, EReal.coe_mul _ _⟩

/-- A channel's mean. -/
def avgN (f : Fin 4 → Fin 224 → Fin 224 → EReal) : EReal := Ideal.div (∑ n, ∑ h, ∑ x, f n h x) sizeL
/-- Its variance. -/
def varN (f : Fin 4 → Fin 224 → Fin 224 → EReal) : EReal := Ideal.div (∑ n, ∑ h, ∑ x, (f n h x - avgN f) * (f n h x - avgN f)) sizeL

/-- A channel's sum. -/
theorem channel_sum (v : S4x96x224x224.Idx → EReal) (o : Fin 96) :
    Ideal.hostReduceAdd reducesTo_S4x96x224x224_S96_d0_2_3 v 0 (ix1 o) = ∑ n : Fin 4, ∑ h : Fin 224, ∑ x : Fin 224, v (ix4 n o h x) := by
  unfold Ideal.hostReduceAdd
  rw [zero_add]
  have hp : (∑ n : Fin 4, ∑ h : Fin 224, ∑ x : Fin 224, v (ix4 n o h x)) = ∑ p : Fin 4 × Fin 224 × Fin 224, v (ix4 p.1 o p.2.1 p.2.2) := by
    simp only [Fintype.sum_prod_type]
  rw [hp]
  refine Finset.sum_bij' (fun i _ => (i 0, i 2, i 3)) (fun p _ => ix4 p.1 o p.2.1 p.2.2) (fun _ _ => Finset.mem_univ _) (fun p _ => ?_) (fun i hi => ?_) (fun p _ => rfl) (fun i hi => ?_)
  · rw [Finset.mem_filter]
    refine ⟨Finset.mem_univ _, funext fun a => ?_⟩
    obtain rfl : a = 0 := Subsingleton.elim _ _
    rfl
  · have e : i 1 = o := congrFun (Finset.mem_filter.mp hi).2 0
    funext a
    match a with
    | ⟨0, _⟩ => rfl
    | ⟨1, _⟩ => exact e.symm
    | ⟨2, _⟩ => rfl
    | ⟨3, _⟩ => rfl
  · have e : i 1 = o := congrFun (Finset.mem_filter.mp hi).2 0
    refine congrArg v (funext fun a => ?_)
    match a with
    | ⟨0, _⟩ => rfl
    | ⟨1, _⟩ => exact e
    | ⟨2, _⟩ => rfl
    | ⟨3, _⟩ => rfl

theorem v3_apply (o : Fin 96) : val_main_v3 (F := Ideal) x0 (ix4 0 o 0 0) = avgN fun n h x => x0 (ix4 n o h x) := by
  unfold avgN sizeL
  pointwise [val_main_v3, val_main_v2, val_main_v1, val_main_v0, val_main_cst, val_main_cst_0]
  rw [channel_sum]

theorem v6_apply (n : Fin 4) (o : Fin 96) (h x : Fin 224) : val_main_v6 (F := Ideal) x0 (ix4 n o h x) = x0 (ix4 n o h x) - avgN fun n h x => x0 (ix4 n o h x) := by
  rw [← v3_apply]
  pointwise [val_main_v6, val_main_v5]

theorem centre_eq : val_main_call0_v5 (F := Ideal) x0 = val_main_v6 (F := Ideal) x0 := rfl

theorem v4_apply (o : Fin 96) : val_main_v4 (F := Ideal) x0 (ix4 0 o 0 0) = varN fun n h x => x0 (ix4 n o h x) := by
  have hs : val_main_call0_v9 (F := Ideal) x0 (ix1 o) = ∑ n, ∑ h, ∑ x, (x0 (ix4 n o h x) - avgN fun n h x => x0 (ix4 n o h x)) * (x0 (ix4 n o h x) - avgN fun n h x => x0 (ix4 n o h x)) := by
    simp only [← v6_apply, ← centre_eq]
    pointwise [val_main_call0_v9, val_main_call0_v6, val_main_call0_cst_2]
    rw [channel_sum]
    pointwise
  unfold varN sizeL
  rw [← hs]
  pointwise [val_main_v4, val_main_call0_v13, val_main_call0_v12, val_main_call0_v11, val_main_call0_v10, val_main_call0_v8, val_main_call0_v7, val_main_c, val_main_call0_cst_1, val_main_call0_cst_3, val_main_call0_call0_v1, val_main_call0_call0_v0, val_main_call0_cst_4]
  have h0 : (FloatOps.sitofp (F := Ideal) FTy.f32 0#32) = ((0 : ℝ) : EReal) := by
    show (((0#32).toInt : ℝ) : EReal) = _
    simp
  have hc : Ideal.ofBits FTy.f32 0x48440000#32 - FloatOps.sitofp (F := Ideal) FTy.f32 0#32 = Ideal.ofBits FTy.f32 0x48440000#32 := by
    rw [h0]; exact sub_zero _
  rw [hc, if_pos]
  have e : Ideal.ofBits FTy.f32 0x48440000#32 = ((200704 : ℝ) : EReal) := sizeL_eq
  rw [e]
  exact EReal.coe_pos.mpr (by norm_num)

/-- The reference's result at an element. -/
theorem v482_apply (n : Fin 4) (o : Fin 96) (h x : Fin 224) :
    val_main_v482 (F := Ideal) x0 x1 x2 x3 x4 x5 x6 x7 x8 x9 x10 x11 (ix4 n o h x)
      = (Ideal.div (x0 (ix4 n o h x) - avgN fun n h x => x0 (ix4 n o h x)) (Ideal.sqrt ((varN fun n h x => x0 (ix4 n o h x)) + epsL)) * x4 (ix1 o) + x5 (ix1 o))
          * (1 + ((∑ dy : Fin 3, ∑ dx : Fin 3, ∑ s : Fin 256, x6 (ix4 o s dy dx) * rimN (midR x1 x2 x3 x10 x11 n s) h x dy dx) + x7 (ix1 o)))
        + ((∑ dy : Fin 3, ∑ dx : Fin 3, ∑ s : Fin 256, x8 (ix4 o s dy dx) * rimN (midR x1 x2 x3 x10 x11 n s) h x dy dx) + x9 (ix1 o)) := by
  have hm : ∀ s, (fun h x' => val_main_v360 (F := Ideal) x1 x2 x3 x10 x11 (ix4 n s h x')) = midR x1 x2 x3 x10 x11 n s :=
    fun s => funext fun h => funext fun x' => v360_apply x1 x2 x3 x10 x11 n s h x'
  have hg := convV_apply (val_main_v360 (F := Ideal) x1 x2 x3 x10 x11) x6 x7 n o h x
  have hb := convV_apply (val_main_v360 (F := Ideal) x1 x2 x3 x10 x11) x8 x9 n o h x
  simp only [hm] at hg hb
  rw [← hg, ← hb, ← gamma_eq, ← beta_eq, ← v6_apply, ← v4_apply]
  unfold epsL
  pointwise [val_main_v482, val_main_v481, val_main_v480, val_main_v479, val_main_cst_82, val_main_v17, val_main_v16, val_main_v15, val_main_v14, val_main_v13, val_main_v12, val_main_v11, val_main_v10, val_main_v9, val_main_v8, val_main_v7, val_main_cst_1]

end Cert.ReferenceIdeal.Hand
-- ==== Proof.Algebra.lean ====
module

public import proofs.«01_k».proof.Proof.KerTaps
public import proofs.«01_k».proof.Proof.RefTaps

/- The two results are the same number: extended-real values that are real where the precondition says so, the variance two ways, and the products regrouped. -/

@[expose] public section

set_option maxRecDepth 16384

noncomputable section

namespace Cert.KernelIdeal.Hand

open Cert.KernelIdeal Cert.KernelIdeal.Gen
open Cert.ReferenceIdeal.Hand (rimN sizeL epsL sizeL_eq epsL_pos avgN varN muR midR)
open Idealize.ShloMosaic Idealize.ShloMosaic.TcCoe Idealize.ShloMosaic.Tactic

/-! ## Real values -/

def IsNum (x : EReal) : Prop := ∃ r : ℝ, x = (r : EReal)

theorem IsNum.add {x y : EReal} (hx : IsNum x) (hy : IsNum y) : IsNum (x + y) := by
  obtain ⟨a, rfl⟩ := hx; obtain ⟨b, rfl⟩ := hy; exact ⟨a + b, (EReal.coe_add a b).symm⟩
theorem IsNum.mul {x y : EReal} (hx : IsNum x) (hy : IsNum y) : IsNum (x * y) := by
  obtain ⟨a, rfl⟩ := hx; obtain ⟨b, rfl⟩ := hy; exact ⟨a * b, (EReal.coe_mul a b).symm⟩
theorem IsNum.max {x y : EReal} (hx : IsNum x) (hy : IsNum y) : IsNum (max x y) := by
  rcases max_choice x y with h | h <;> rw [h] <;> assumption
theorem IsNum.zero : IsNum 0 := ⟨0, rfl⟩
theorem IsNum.sum {ι : Type} (S : Finset ι) (f : ι → EReal) (hf : ∀ i, IsNum (f i)) : IsNum (∑ i ∈ S, f i) :=
  Finset.sum_induction f IsNum (fun _ _ => IsNum.add) IsNum.zero fun i _ => hf i
theorem coe_sum {ι : Type} (S : Finset ι) (f : ι → ℝ) : ((∑ i ∈ S, f i : ℝ) : EReal) = ∑ i ∈ S, (f i : EReal) := by
  induction S using Finset.cons_induction with
  | empty => rfl
  | cons a S ha ih => rw [Finset.sum_cons, Finset.sum_cons, EReal.coe_add, ih]

theorem nine_eq : Ideal.ofBits FTy.f32 0x41100000#32 = ((9 : ℝ) : EReal) := by
  simp [Ideal.ofBits, Ideal.ieee]
  rw [← EReal.coe_mul]
  norm_num

theorem div_num (r y : ℝ) (hy : y ≠ 0) : Ideal.div (r : EReal) (y : EReal) = ((r / y : ℝ) : EReal) := by
  rw [Ideal.div_coe hy, ← EReal.coe_mul]
  congr 1; ring

theorem midN_num (st : Fin 9 → Fin 256 → EReal) (cnt : EReal) (mc : BitVec 32) (j : Fin 8) (i : Fin 256) (h : ∀ k i, IsNum (st k i)) : IsNum (midN st cnt mc j i) := by
  unfold midN
  split
  · split <;> exact h _ _
  · obtain ⟨r, hr⟩ := IsNum.sum Finset.univ (fun k => st k i) fun k => h k i
    rw [hr, nine_eq, div_num _ _ (by norm_num)]
    exact ⟨_, rfl⟩

theorem muN_num (st : Fin 9 → Fin 256 → EReal) (cnt : EReal) (mc : BitVec 32) (w : Fin 256 → Fin 256 → EReal) (b : Fin 256 → EReal) (j : Fin 8) (s : Fin 256)
    (hst : ∀ k i, IsNum (st k i)) (hw : ∀ i s, IsNum (w i s)) (hb : ∀ s, IsNum (b s)) : IsNum (muN st cnt mc w b j s) :=
  ((IsNum.sum _ _ fun i => (midN_num st cnt mc j i hst).mul (hw i s)).add (hb s)).max IsNum.zero

/-! ## The variance two ways -/

theorem var_real {ι : Type} [Fintype ι] (f : ι → ℝ) (N : ℝ) (hN : N = Fintype.card ι) (h0 : N ≠ 0) :
    (∑ i, (f i - (∑ i, f i) / N) * (f i - (∑ i, f i) / N)) / N = (∑ i, f i * f i) / N - (∑ i, f i) / N * ((∑ i, f i) / N) := by
  have e : ∀ μ : ℝ, ∑ i, (f i - μ) * (f i - μ) = ∑ i, f i * f i - 2 * μ * ∑ i, f i + N * (μ * μ) := fun μ => by
    have : ∀ i, (f i - μ) * (f i - μ) = f i * f i - 2 * μ * f i + μ * μ := fun i => by ring
    simp only [this, Finset.sum_add_distrib, Finset.sum_sub_distrib, ← Finset.mul_sum, Finset.sum_const, Finset.card_univ, nsmul_eq_mul, ← hN]
    ring
  rw [e]
  field_simp
  ring

section Stats
variable (f : Fin 4 → Fin 224 → Fin 224 → ℝ)

/-- The mean and the variance, as real numbers. -/
def avgR : ℝ := (∑ n, ∑ h, ∑ x, f n h x) / 200704
def varR : ℝ := (∑ n, ∑ h, ∑ x, (f n h x - avgR f) * (f n h x - avgR f)) / 200704

theorem varR_nonneg : 0 ≤ varR f :=
  div_nonneg (Finset.sum_nonneg fun _ _ => Finset.sum_nonneg fun _ _ => Finset.sum_nonneg fun _ _ => mul_self_nonneg _) (by norm_num)

theorem varR_eq : varR f = (∑ n, ∑ h, ∑ x, f n h x * f n h x) / 200704 - avgR f * avgR f := by
  have h := var_real (fun p : Fin 4 × Fin 224 × Fin 224 => f p.1 p.2.1 p.2.2) 200704 (by simp) (by norm_num)
  simp only [Fintype.sum_prod_type] at h
  exact h

theorem avgN_real : avgN (fun n h x => (f n h x : EReal)) = (avgR f : EReal) := by
  unfold avgN avgR
  simp only [← coe_sum]
  rw [sizeL_eq, div_num _ _ (by norm_num)]

theorem varN_real : varN (fun n h x => (f n h x : EReal)) = (varR f : EReal) := by
  unfold varN varR
  simp only [avgN_real, ← EReal.coe_sub, ← EReal.coe_mul, ← coe_sum]
  rw [sizeL_eq, div_num _ _ (by norm_num)]

/-- The kernel's two partial sums give the same mean. -/
theorem mean_real (S : FVec Ideal S2x96x224 .f32) (o : Fin 96) (hS : ∀ k x, S (ix3 k o x) = ∑ n : Fin 4, ∑ h : Fin 224, power k (f n h x : EReal)) :
    meanN S o = (avgR f : EReal) := by
  unfold meanN avgR
  have e : ∑ x : Fin 224, S (ix3 0 o x) = ((∑ n, ∑ h, ∑ x, f n h x : ℝ) : EReal) := by
    simp only [hS, power, if_pos, coe_sum]
    rw [Finset.sum_comm]
    exact Finset.sum_congr rfl fun n _ => Finset.sum_comm
  rw [e, ← sizeL, sizeL_eq, div_num _ _ (by norm_num)]

theorem scale_real (S : FVec Ideal S2x96x224 .f32) (w : FVec Ideal S96x1 .f32) (o : Fin 96) (wr e : ℝ) (he : 0 < e) (hw : w (ix2 o 0) = (wr : EReal)) (hee : epsL = (e : EReal))
    (hS : ∀ k x, S (ix3 k o x) = ∑ n : Fin 4, ∑ h : Fin 224, power k (f n h x : EReal)) :
    scaleN S w o = (wr : EReal) * (((√(varR f + e))⁻¹ : ℝ) : EReal) := by
  unfold scaleN
  have e2 : ∑ x : Fin 224, S (ix3 1 o x) = ((∑ n, ∑ h, ∑ x, f n h x * f n h x : ℝ) : EReal) := by
    simp only [hS, power, coe_sum, EReal.coe_mul]
    rw [Finset.sum_comm]
    exact Finset.sum_congr rfl fun n _ => Finset.sum_comm
  have hpos : 0 < varR f + e := add_pos_of_nonneg_of_pos (varR_nonneg f) he
  rw [hw, mean_real f S o hS, e2, ← sizeL, sizeL_eq, div_num _ _ (by norm_num), ← epsL, hee, ← EReal.coe_mul, ← EReal.coe_sub, ← varR_eq, ← EReal.coe_add,
    Ideal.rsqrt_coe, if_neg (not_lt.mpr hpos.le), if_neg hpos.ne']

end Stats

/-! ## The products regrouped -/

theorem regroup (fp μ r w b gb : ℝ) (t : Fin 3 → Fin 3 → ℝ) (B : Fin 3 → Fin 3 → EReal) (bb : EReal) :
    (fp : EReal) * (∑ dy : Fin 3, ∑ dx : Fin 3, gamTap (1 + (gb : EReal)) (fun dy dx => (t dy dx : EReal)) dy dx * ((w : EReal) * (r : EReal)))
      + (∑ dy : Fin 3, ∑ dx : Fin 3, (gamTap bb B dy dx + ((b : EReal) - (μ : EReal) * ((w : EReal) * (r : EReal))) * gamTap (1 + (gb : EReal)) (fun dy dx => (t dy dx : EReal)) dy dx))
    = (((fp : EReal) - (μ : EReal)) * (r : EReal) * (w : EReal) + (b : EReal)) * (1 + ((∑ dy : Fin 3, ∑ dx : Fin 3, (t dy dx : EReal)) + (gb : EReal)))
      + ((∑ dy : Fin 3, ∑ dx : Fin 3, B dy dx) + bb) := by
  have hg : ∀ dy dx : Fin 3, gamTap (1 + (gb : EReal)) (fun dy dx => (t dy dx : EReal)) dy dx = ((t dy dx + (if dy = 0 ∧ dx = 0 then 1 else 0) * (1 + gb) : ℝ) : EReal) := fun dy dx => by
    unfold gamTap
    by_cases h : dy = 0 ∧ dx = 0
    · simp only [if_pos h, one_mul, EReal.coe_add, EReal.coe_one]
    · simp only [if_neg h, zero_mul, add_zero]
  have hb : ∑ dy : Fin 3, ∑ dx : Fin 3, gamTap bb B dy dx = (∑ dy : Fin 3, ∑ dx : Fin 3, B dy dx) + bb := by
    unfold gamTap
    simp only [Finset.sum_add_distrib]
    congr 1
    simp [Fin.sum_univ_three]
  simp only [Finset.sum_add_distrib, hb, hg]
  simp only [← EReal.coe_mul, ← EReal.coe_sub, ← EReal.coe_one, ← EReal.coe_add, ← coe_sum]
  rw [add_comm _ (((_ : ℝ) : EReal)), ← add_assoc, ← EReal.coe_add]
  congr 2
  simp only [Fin.sum_univ_three]
  simp
  ring

end Cert.KernelIdeal.Hand
-- ==== Proof.Finite.lean ====
module

public import proofs.«01_k».proof.Defs
public import proofs.«01_k».proof.Proof.Algebra

/- The precondition read: each of the eight operands it names has real elements only. -/

@[expose] public section

set_option maxRecDepth 16384

noncomputable section

namespace Cert.Pre_finite_operands.Hand

open Cert.Pre_finite_operands
open Cert.KernelIdeal.Hand (IsNum)
open Idealize.ShloMosaic Idealize.ShloMosaic.TcCoe Idealize.ShloMosaic.Tactic

theorem facts : Cert.Pre_finite_operands.Facts where
  bcast_S_S4x96x224x224 := by decide
  reducesTo_S4x96x224x224_S_d0_1_2_3 := by decide
  h_S_ := by decide
  bcast_S_S4x9x256 := by decide
  reducesTo_S4x9x256_S_d0_1_2 := by decide
  bcast_S_S96 := by decide
  reducesTo_S96_S_d0 := by decide
  bcast_S_S96x256x3x3 := by decide
  reducesTo_S96x256x3x3_S_d0_1_2_3 := by decide
  bcast_S_S8x256x256 := by decide
  reducesTo_S8x256x256_S_d0_1_2 := by decide
  bcast_S_S8x256 := by decide
  reducesTo_S8x256_S_d0_1 := by decide

theorem andi_one {a b : BitVec 1} (h : IntOp.andi a b = 1#1) : a = 1#1 ∧ b = 1#1 := by
  revert a b; decide

/-- An `and` over all elements that holds, holds at each. -/
theorem each_of_all {ι : Type} [DecidableEq ι] (S : Finset ι) (x : ι → BitVec 1) (b : BitVec 1) (h : Finset.fold IntOp.andi b x S = 1#1) : ∀ i ∈ S, x i = 1#1 := by
  induction S using Finset.induction_on with
  | empty => exact fun i hi => absurd hi (Finset.notMem_empty i)
  | insert a S ha ih =>
    rw [Finset.fold_insert ha] at h
    obtain ⟨h1, h2⟩ := andi_one h
    intro i hi
    rcases Finset.mem_insert.mp hi with rfl | hi
    · exact h1
    · exact ih h2 i hi

theorem num_of_abs (x : EReal) (h : max x (-x) < ⊤) : IsNum x := by
  induction x with
  | bot => exact absurd h (by simp)
  | coe r => exact ⟨r, rfl⟩
  | top => exact absurd h (by simp)

theorem num_of_flag {s : Shape} {axes : List (Fin s.rank)} (x : FVec Ideal s .f32) (hb : S_.BroadcastsInDim s (![] : Fin 0 → Fin s.rank)) (h : s.ReducesTo axes S_) (hS : 0 < S_.numel)
    (e : Host.reduce IntOp.andi (cmpf .olt (Host.absf x) (broadcastInDim s ![] hb (constant S_ .f32 0x7F800000#32)) : IVec s 1) (constantI S_ 1 1#1) h hS ix0 = 1#1) (i : s.Idx) :
    IsNum (x i) := by
  rw [Host.reduce_eq_fold] at e
  have hi := each_of_all _ _ _ e i (Finset.mem_filter.mpr ⟨Finset.mem_univ _, funext fun a => a.elim0⟩)
  refine num_of_abs _ ?_
  have hi' : BitVec.ofBool (decide (max (x i) (-(x i)) < Ideal.ofBits .f32 0x7F800000#32)) = 1#1 := hi
  have ht : Ideal.ofBits .f32 0x7F800000#32 = ⊤ := by simp [Ideal.ofBits, Ideal.ieee]
  rw [ht] at hi'
  by_contra hn
  rw [decide_eq_false hn] at hi'
  exact absurd hi' (by decide)

attribute [local instance] facts

theorem finite (x0 : FVec Ideal S4x96x224x224 .f32) (x1 : FVec Ideal S4x8x224x224 .f32) (x2 : FVec Ideal S4x9x256 .f32) (x3 : IVec S4x8 32) (x4 x5 : FVec Ideal S96 .f32)
    (x6 : FVec Ideal S96x256x3x3 .f32) (x7 : FVec Ideal S96 .f32) (x8 : FVec Ideal S96x256x3x3 .f32) (x9 : FVec Ideal S96 .f32) (x10 : FVec Ideal S8x256x256 .f32) (x11 : FVec Ideal S8x256 .f32)
    (h : fn (F := Ideal) x0 x1 x2 x3 x4 x5 x6 x7 x8 x9 x10 x11 = fun _ => 1#1) :
    (∀ i, IsNum (x0 i)) ∧ (∀ i, IsNum (x2 i)) ∧ (∀ i, IsNum (x4 i)) ∧ (∀ i, IsNum (x5 i)) ∧ (∀ i, IsNum (x6 i)) ∧ (∀ i, IsNum (x7 i)) ∧ (∀ i, IsNum (x10 i)) ∧ (∀ i, IsNum (x11 i)) := by
  have h := congrFun h ix0
  unfold fn fn_part1 fn_part2 at h
  obtain ⟨h, h11⟩ := andi_one h
  obtain ⟨h, h10⟩ := andi_one h
  obtain ⟨h, h7⟩ := andi_one h
  obtain ⟨h, h6⟩ := andi_one h
  obtain ⟨h, h5⟩ := andi_one h
  obtain ⟨h, h4⟩ := andi_one h
  obtain ⟨h0, h2⟩ := andi_one h
  exact ⟨num_of_flag x0 _ _ _ h0, num_of_flag x2 _ _ _ h2, num_of_flag x4 _ _ _ h4, num_of_flag x5 _ _ _ h5, num_of_flag x6 _ _ _ h6, num_of_flag x7 _ _ _ h7,
    num_of_flag x10 _ _ _ h10, num_of_flag x11 _ _ _ h11⟩

end Cert.Pre_finite_operands.Hand
-- ==== Proof.Agree.lean ====
module

public import proofs.«01_k».proof.Proof.Finite

/- The second call's element and the reference's, equal at every index. -/

@[expose] public section

set_option maxRecDepth 16384

noncomputable section

namespace Cert.KernelIdeal.Hand

open Cert.KernelIdeal Cert.KernelIdeal.Gen
open Cert.ReferenceIdeal.Hand (rimN sizeL epsL epsL_pos avgN varN muR midR v482_apply)
open Cert.ReferenceIdeal.Read (val_main_v482)
open Idealize.ShloMosaic Idealize.ShloMosaic.TcCoe Idealize.ShloMosaic.Tactic
open Idealize.ShloMosaic.Pipeline (Dat)

section
variable (x0 : FVec Ideal S4x96x224x224 .f32) (x1 : FVec Ideal S4x8x224x224 .f32) (x2 : FVec Ideal S4x9x256 .f32) (x3 : IVec S4x8 32) (x4 x5 : FVec Ideal S96 .f32) (x6 x8 : FVec Ideal S96x256x3x3 .f32) (x7 x9 : FVec Ideal S96 .f32)
  (x10 : FVec Ideal S8x256x256 .f32) (x11 : FVec Ideal S8x256 .f32)

/-- A tap of region `j` with the weights `W`. -/
def regTap (W : FVec Ideal S96x256x3x3 .f32) (n : Fin 4) (o : Fin 96) (dy dx : Fin 3) (j : Fin 8) : EReal :=
  ∑ s : Fin 256, muR x1 x2 x3 x10 x11 n j s * W (ix4 o s dy dx)

/-- The reference's tap is the one of the neighbouring pixel's region. -/
theorem tap_agree (W : FVec Ideal S96x256x3x3 .f32) (n : Fin 4) (o : Fin 96) (h x : Fin 224) (dy dx : Fin 3) :
    ∑ s : Fin 256, W (ix4 o s dy dx) * rimN (midR x1 x2 x3 x10 x11 n s) h x dy dx = tapN (regTap x1 x2 x3 x10 x11 W n o dy dx) (nbrN x1 n h x dy dx) := by
  unfold rimN nbrN
  by_cases hi : (1 ≤ h.val + dy.val ∧ h.val + dy.val < 225) ∧ (1 ≤ x.val + dx.val ∧ x.val + dx.val < 225)
  · simp only [dif_pos hi]
    unfold midR tapN regTap regN
    dsimp only
    by_cases hr : (regionOf fun j => x1 (ix4 n j ⟨h.val + dy.val - 1, by omega⟩ ⟨x.val + dx.val - 1, by omega⟩)).toNat < 8
    · simp only [dif_pos hr]
      exact Finset.sum_congr rfl fun s _ => mul_comm _ _
    · simp only [dif_neg hr, mul_zero, Finset.sum_const_zero]
  · simp only [dif_neg hi, mul_zero, Finset.sum_const_zero]
    unfold tapN
    rw [dif_neg (by decide)]

/-- The table's element is a tap. -/
theorem tab_gamma (n : Fin 4) (o : Fin 96) (dy dx : Fin 3) (j : Fin 8) :
    tabN x2 x3 (fcT x10) x11 (w2V x6 x8) (fun n j => ∑ x : Fin 224, ∑ h : Fin 224, above (x1 (ix4 n j h x))) j n (colN dy dx ⟨o.val, by omega⟩) = regTap x1 x2 x3 x10 x11 x6 n o dy dx j := by
  unfold tabN regTap muR
  simp only [w2V_gamma, fcT_apply]
theorem tab_beta (n : Fin 4) (o : Fin 96) (dy dx : Fin 3) (j : Fin 8) :
    tabN x2 x3 (fcT x10) x11 (w2V x6 x8) (fun n j => ∑ x : Fin 224, ∑ h : Fin 224, above (x1 (ix4 n j h x))) j n (colN dy dx ⟨96 + o.val, by omega⟩) = regTap x1 x2 x3 x10 x11 x8 n o dy dx j := by
  unfold tabN regTap muR
  simp only [w2V_beta, fcT_apply]

variable (h0 : ∀ i, IsNum (x0 i)) (h2 : ∀ i, IsNum (x2 i)) (h4 : ∀ i, IsNum (x4 i)) (h5 : ∀ i, IsNum (x5 i)) (h6 : ∀ i, IsNum (x6 i)) (h7 : ∀ i, IsNum (x7 i))
  (h10 : ∀ i, IsNum (x10 i)) (h11 : ∀ i, IsNum (x11 i))

include h2 h6 h10 h11 in
theorem tap_num (n : Fin 4) (o : Fin 96) (dy dx : Fin 3) (v : Fin 9) : IsNum (tapN (regTap x1 x2 x3 x10 x11 x6 n o dy dx) v) := by
  unfold tapN
  split
  · exact IsNum.sum _ _ fun s => (muN_num _ _ _ _ _ _ _ (fun _ _ => h2 _) (fun _ _ => h10 _) fun _ => h11 _).mul (h6 _)
  · exact IsNum.zero

include h0 h2 h4 h5 h6 h7 h10 h11

theorem values_agree (I : IVec S4x240x384 32) (hI : ∀ n y z, I (ix3 n y z) = padReg x1 n y z) (S : FVec Ideal S2x96x224 .f32)
    (hS : ∀ k o x, S (ix3 k o x) = ∑ n : Fin 4, ∑ h : Fin 224, power k (x0 (ix4 n o h x)))
    (g : FVec Ideal S32x1728 .f32)
    (hg : ∀ j n q, g (ix2 ⟨4 * j.val + n.val, by omega⟩ q) = tabN x2 x3 (fcT x10) x11 (w2V x6 x8) (fun n j => ∑ x : Fin 224, ∑ h : Fin 224, above (x1 (ix4 n j h x))) j n q)
    (n : Fin 4) (o : Fin 96) (h x : Fin 224) :
    mainN x0 I (bigV g) S (colV x4) (colV x5) (colV x7) (colV x9) n o h x = val_main_v482 (F := Ideal) x0 x1 x2 x3 x4 x5 x6 x7 x8 x9 x10 x11 (ix4 n o h x) := by
  choose f hf using h0
  obtain ⟨w, hw⟩ := h4 (ix1 o)
  obtain ⟨b, hb⟩ := h5 (ix1 o)
  obtain ⟨gb, hgb⟩ := h7 (ix1 o)
  obtain ⟨e, he, hee⟩ := epsL_pos
  choose t ht using fun dy dx : Fin 3 => tap_num x1 x2 x3 x6 x10 x11 h2 h6 h10 h11 n o dy dx (nbrN x1 n h x dy dx)
  have hS' : ∀ k x, S (ix3 k o x) = ∑ n : Fin 4, ∑ h : Fin 224, power k ((f (ix4 n o h x) : ℝ) : EReal) := fun k x => by simp only [hS, hf]
  have hpos : 0 < varR (fun n h x => f (ix4 n o h x)) + e := add_pos_of_nonneg_of_pos (varR_nonneg _) he
  have hroot : √(varR (fun n h x => f (ix4 n o h x)) + e) ≠ 0 := (Real.sqrt_pos.mpr hpos).ne'
  rw [v482_apply]
  unfold mainN
  rw [gamSum_taps x1 I hI, betSum_taps x1 I hI]
  simp only [hg, tab_gamma, tab_beta, tap_agree, colV_apply, ht, hgb]
  unfold shiftN
  rw [scale_real (fun n h x => f (ix4 n o h x)) S (colV x4) o w e he ((colV_apply x4 o).trans hw) hee hS', mean_real (fun n h x => f (ix4 n o h x)) S o hS']
  simp only [hf, avgN_real (fun n h x => f (ix4 n o h x)), varN_real (fun n h x => f (ix4 n o h x)), colV_apply, hw, hb, hee]
  rw [← EReal.coe_add, Ideal.sqrt_coe, if_neg (not_lt.mpr hpos.le), Ideal.div_coe hroot, one_div]
  exact regroup _ _ _ _ _ _ t _ _

end

attribute [local instance] Cert.Pre_finite_operands.Hand.facts

variable (m : (ℓ : Loc nD τ sig) → Buf (Elt Ideal) ℓ) (ρ : Dev nD → PrngReg)

theorem V1_arg (c : Dev nD) (a : Ref sig .tc) (ha : a ∈ argRefs) : V1 m ρ c a = m ((c : Thread nD τ).loc a) := W1_args m ρ c a ha
theorem V11_arg (c : Dev nD) (a : Ref sig .tc) (ha : a ∈ argRefs) : V11 m ρ c a = m ((c : Thread nD τ).loc a) := W11_args m ρ c a ha

/-- The kernel's result array is the reference's function of the arguments. -/
theorem result_eq (c : Dev nD)
    (hpre : Cert.Pre_finite_operands.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) = fun _ => 1#1) :
    W12 m ρ c (Proc.devRef .tc main_v21)
      = val_main_v482 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) := by
  obtain ⟨h0, h2, h4, h5, h6, h7, h10, h11⟩ := Cert.Pre_finite_operands.Hand.finite _ _ _ _ _ _ _ _ _ _ _ _ hpre
  refine (W12_arr m ρ c 8).trans (funext fun (i : S4x96x224x224.Idx) => ?_)
  obtain ⟨n, o, h, x, rfl⟩ : ∃ n o h x, i = ix4 n o h x := ⟨_, _, _, _, (ix4_eta i).symm⟩
  refine (arr1 (V11 m ρ) c n o h x).trans ?_
  rw [V11_v16, V11_v7_0, V11_v7_1, V11_v17, V11_v18, V11_v19, V11_v20, V11_arg m ρ c main_arg0 (by decide)]
  refine values_agree _ _ _ _ _ _ _ _ _ _ _ _ h0 h2 h4 h5 h6 h7 h10 h11 _ (fun n y z => ?_) _ (fun k o x => ?_) _ (fun j n q => ?_) _ _ _ _
  · exact (arr0_8 (V1 m ρ) c n y z).trans (by rw [V1_arg m ρ c main_arg1 (by decide)])
  · exact (arr0_7 (V1 m ρ) c k o x).trans (by rw [V1_arg m ρ c main_arg0 (by decide)])
  · refine (arr0_10 (V1 m ρ) c j n q).trans ?_
    rw [V1_v5, V1_v6, V1_arg m ρ c main_arg1 (by decide), V1_arg m ρ c main_arg2 (by decide), V1_arg m ρ c main_arg3 (by decide), V1_arg m ρ c main_arg11 (by decide)]

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Agree
public import Idealize.ShloMosaic.Lib.Quiescent

@[expose] public section

noncomputable section

namespace Cert.Proof

open Idealize.ShloMosaic Idealize.SL.Sem

/-- The kernel as run has the ideal kernel's text, so the frame read at its own arithmetic is its frame. -/
theorem quiescent_kernel : Cert.quiescent_Kernel (hKernel := Cert.Kernel.Gen.facts) := by
  intro m g _
  rw [Cert.Same.defs_eq, Cert.Same.main_eq]
  exact Cert.KernelIdeal.Hand.frame (F := Bits) m g

/-- The reference is host operations alone: its run leaves the arguments, and it has no counters. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

section Value
open Idealize.ShloMosaic.TcCoe Idealize.ShloMosaic.StableHlo

/-- The kernel and the reference end with the same result, the arguments as launched. -/
theorem algebraic : Cert.algebraic_KernelIdeal_ReferenceIdeal_pre_finite_operands (hKernelIdeal := Cert.KernelIdeal.Gen.facts)
    (hReferenceIdeal := Cert.ReferenceIdeal.Gen.facts) (hPre_finite_operands := Cert.Pre_finite_operands.Hand.facts) := by
  intro m g m' g' hpre hargs
  refine ⟨fun c => Cert.KernelIdeal.Hand.W12 m g c (Proc.devRef .tc Cert.KernelIdeal.main_v21), ?_, ?_⟩
  · exact (θ_run _ _ _).mono (fun r h c => ⟨h.1 c _ (Cert.KernelIdeal.Hand.mem_uc Cert.KernelIdeal.main_v21 (by decide)),
     Cert.KernelIdeal.Hand.kept m g h.1 c Cert.KernelIdeal.main_arg0 (by decide) (by decide),
     Cert.KernelIdeal.Hand.kept m g h.1 c Cert.KernelIdeal.main_arg1 (by decide) (by decide),
     Cert.KernelIdeal.Hand.kept m g h.1 c Cert.KernelIdeal.main_arg2 (by decide) (by decide),
     Cert.KernelIdeal.Hand.kept m g h.1 c Cert.KernelIdeal.main_arg3 (by decide) (by decide),
     Cert.KernelIdeal.Hand.kept m g h.1 c Cert.KernelIdeal.main_arg4 (by decide) (by decide),
     Cert.KernelIdeal.Hand.kept m g h.1 c Cert.KernelIdeal.main_arg5 (by decide) (by decide),
     Cert.KernelIdeal.Hand.kept m g h.1 c Cert.KernelIdeal.main_arg6 (by decide) (by decide),
     Cert.KernelIdeal.Hand.kept m g h.1 c Cert.KernelIdeal.main_arg7 (by decide) (by decide),
     Cert.KernelIdeal.Hand.kept m g h.1 c Cert.KernelIdeal.main_arg8 (by decide) (by decide),
     Cert.KernelIdeal.Hand.kept m g h.1 c Cert.KernelIdeal.main_arg9 (by decide) (by decide),
     Cert.KernelIdeal.Hand.kept m g h.1 c Cert.KernelIdeal.main_arg10 (by decide) (by decide),
     Cert.KernelIdeal.Hand.kept m g h.1 c Cert.KernelIdeal.main_arg11 (by decide) (by decide)⟩) (Cert.KernelIdeal.Hand.run_all m g)
  · refine (θ_run _ _ _).mono (fun r h c => ⟨?_, (h c).2⟩) (Cert.ReferenceIdeal.Value.run m' g')
    refine ((h c).1.trans (Cert.ReferenceIdeal.Read.val_main_v482_eq (launchContents m' c))).trans ?_
    refine Eq.trans ?_ (Cert.KernelIdeal.Hand.result_eq m g c (hpre c)).symm
    obtain ⟨e0, e1, e2, e3, e4, e5, e6, e7, e8, e9, e10, e11⟩ := hargs c
    rw [← e0, ← e1, ← e2, ← e3, ← e4, ← e5, ← e6, ← e7, ← e8, ← e9, ← e10, ← e11]

end Value

theorem claim : Cert.Claim := ⟨Cert.Kernel.Gen.facts, Cert.KernelIdeal.Gen.facts, Cert.ReferenceIdeal.Gen.facts, Cert.Pre_finite_operands.Hand.facts,
  quiescent_kernel, fun m g _ => Cert.KernelIdeal.Hand.frame m g, fun m g _ => Cert.KernelIdeal.Hand.frame m g,
  quiescent_reference, fun m g _ => quiescent_reference m g trivial, trivial, algebraic⟩

end Cert.Proof

end
